-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S2x512x256 : Shape := ⟨3, ![2, 512, 256]⟩
abbrev S2x8x64x256 : Shape := ⟨4, ![2, 8, 64, 256]⟩
abbrev S48 : Shape := ⟨1, ![48]⟩
abbrev S_ : Shape := ⟨0, ![]⟩
abbrev S256x256 : Shape := ⟨2, ![256, 256]⟩
abbrev S1x512x256 : Shape := ⟨3, ![1, 512, 256]⟩
abbrev S1 : Shape := ⟨1, ![1]⟩
abbrev S1x1x64x256 : Shape := ⟨4, ![1, 1, 64, 256]⟩
abbrev S64x256 : Shape := ⟨2, ![64, 256]⟩
abbrev S1x64x256 : Shape := ⟨3, ![1, 64, 256]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S2x512x256, .bf16⟩
  | .local _ .vmem, ⟨9, _⟩ => ⟨S2x8x64x256, .bf16⟩
  | .local _ .vmem, ⟨10, _⟩ => ⟨S2x512x256, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v15 : BitVec 32 := Scalar.xori v2 c1_i32_5
  let c1_i32_7 : BitVec 32 := 1#32
  let v16 : BitVec 32 := Scalar.muli v15 c1_i32_7
  let v17 : BitVec 32 := Scalar.addi c0_i32 v16
  v17.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.xori v2 c3_i32
  let c1_i32_9 : BitVec 32 := 1#32
  let v19 : BitVec 32 := Scalar.muli v18 c1_i32_9
  let v20 : BitVec 32 := Scalar.addi c0_i32_10 v19
  v20.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v21 : BitVec 32 := Scalar.xori v2 c4_i32_11
  let c1_i32_13 : BitVec 32 := 1#32
  let v22 : BitVec 32 := Scalar.muli v21 c1_i32_13
  let v23 : BitVec 32 := Scalar.addi c0_i32_14 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_15 : BitVec 32 := 2#32
  let v24 : BitVec 32 := Scalar.xori v2 c2_i32_15
  let c1_i32_17 : BitVec 32 := 1#32
  let v25 : BitVec 32 := Scalar.muli v24 c1_i32_17
  let v26 : BitVec 32 := Scalar.addi c0_i32_18 v25
  v26.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v27 : BitVec 32 := Scalar.xori v2 c5_i32
  let c1_i32_20 : BitVec 32 := 1#32
  let v28 : BitVec 32 := Scalar.muli v27 c1_i32_20
  let v29 : BitVec 32 := Scalar.addi c0_i32_21 v28
  v29.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v30 : BitVec 32 := Scalar.xori v2 c7_i32
  let c1_i32_23 : BitVec 32 := 1#32
  let v31 : BitVec 32 := Scalar.muli v30 c1_i32_23
  let v32 : BitVec 32 := Scalar.addi c0_i32_24 v31
  v32.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v33 : BitVec 32 := Scalar.xori v2 c6_i32
  let c1_i32_26 : BitVec 32 := 1#32
  let v34 : BitVec 32 := Scalar.muli v33 c1_i32_26
  let v35 : BitVec 32 := Scalar.addi c0_i32_27 v34
  v35.toNat
def k0_off1 (d0 : Dev nD) (c0_i32_38 : BitVec 32) (c6_i32_35 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : BitVec 32 := Scalar.xori v2 c6_i32_35
  let v48 : BitVec 32 := Scalar.addi c0_i32_38 v45
  ![v48.toNat]
def k0_off2 (d0 : Dev nD) (c0_i32_39 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v49 : BitVec 32 := Scalar.addi c0_i32_39 v2
  ![v49.toNat]
def k0_off3 (d0 : Dev nD) : Fin 4 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_44 : BitVec 32 := 0#32
  let c0_i32_45 : BitVec 32 := 0#32
  ![0, v2.toNat, 0, 0]
def k0_off4 (d0 : Dev nD) (c7_i32_36 : BitVec 32) : Fin 3 → Nat :=
  let c0_i32_40 : BitVec 32 := 0#32
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v8 : BitVec 32 := Scalar.muli c4_i32 v7
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v8 v9
  let c1_i32_0 : BitVec 32 := 1#32
  let v3 : BitVec 32 := Scalar.andi v2 c1_i32_0
  let v11 : BitVec 32 := Scalar.xori v3 v5
  let v12 : BitVec 32 := Scalar.addi v10 v11
  let v46 : BitVec 32 := Scalar.xori v12 c7_i32_36
  let c64_i32_37 : BitVec 32 := 64#32
  let v47 : BitVec 32 := Scalar.muli v46 c64_i32_37
  let c0_i32_46 : BitVec 32 := 0#32
  ![0, v47.toNat, 0]
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_35 : BitVec 32 := 6#32
  let v45 : BitVec 32 := Scalar.xori v2 c6_i32_35
  let c1_i32_42 : BitVec 32 := 1#32
  let v50 : BitVec 32 := Scalar.muli v45 c1_i32_42
  let v51 : BitVec 32 := Scalar.addi c0_i32_43 v50
  v51.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_47 : BitVec 32 := 2#32
  let v60 : BitVec 32 := Scalar.xori v2 c2_i32_47
  let c1_i32_54 : BitVec 32 := 1#32
  let v65 : BitVec 32 := Scalar.muli v60 c1_i32_54
  let v66 : BitVec 32 := Scalar.addi c0_i32_55 v65
  v66.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_59 : BitVec 32 := 5#32
  let v75 : BitVec 32 := Scalar.xori v2 c5_i32_59
  let c1_i32_66 : BitVec 32 := 1#32
  let v80 : BitVec 32 := Scalar.muli v75 c1_i32_66
  let v81 : BitVec 32 := Scalar.addi c0_i32_67 v80
  v81.toNat
def k0_dev11 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_71 : BitVec 32 := 7#32
  let v90 : BitVec 32 := Scalar.xori v2 c7_i32_71
  let c1_i32_78 : BitVec 32 := 1#32
  let v95 : BitVec 32 := Scalar.muli v90 c1_i32_78
  let v96 : BitVec 32 := Scalar.addi c0_i32_79 v95
  v96.toNat
def k0_dev12 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v105 : BitVec 32 := Scalar.xori v2 c1_i32_83
  let c1_i32_90 : BitVec 32 := 1#32
  let v110 : BitVec 32 := Scalar.muli v105 c1_i32_90
  let v111 : BitVec 32 := Scalar.addi c0_i32_91 v110
  v111.toNat
def k0_dev13 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v120 : BitVec 32 := Scalar.xori v2 c3_i32_95
  let c1_i32_102 : BitVec 32 := 1#32
  let v125 : BitVec 32 := Scalar.muli v120 c1_i32_102
  let v126 : BitVec 32 := Scalar.addi c0_i32_103 v125
  v126.toNat
def k0_dev14 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_107 : BitVec 32 := 4#32
  let v135 : BitVec 32 := Scalar.xori v2 c4_i32_107
  let c1_i32_114 : BitVec 32 := 1#32
  let v140 : BitVec 32 := Scalar.muli v135 c1_i32_114
  let v141 : BitVec 32 := Scalar.addi c0_i32_115 v140
  v141.toNat
def k0_off5 (d0 : Dev nD) : Fin 4 → Nat :=
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_132 : BitVec 32 := 0#32
  let c0_i32_133 : BitVec 32 := 0#32
  ![1, v2.toNat, 0, 0]
def k0_off6 (d0 : Dev nD) (c7_i32_124 : BitVec 32) : Fin 3 → Nat :=
  let c1_i32_128 : BitVec 32 := 1#32
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v8 : BitVec 32 := Scalar.muli c4_i32 v7
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v8 v9
  let c1_i32_0 : BitVec 32 := 1#32
  let v3 : BitVec 32 := Scalar.andi v2 c1_i32_0
  let v11 : BitVec 32 := Scalar.xori v3 v5
  let v12 : BitVec 32 := Scalar.addi v10 v11
  let v158 : BitVec 32 := Scalar.xori v12 c7_i32_124
  let c64_i32_125 : BitVec 32 := 64#32
  let v159 : BitVec 32 := Scalar.muli v158 c64_i32_125
  let c0_i32_134 : BitVec 32 := 0#32
  ![1, v159.toNat, 0]
def k0_dev15 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_123 : BitVec 32 := 6#32
  let v157 : BitVec 32 := Scalar.xori v2 c6_i32_123
  let c1_i32_130 : BitVec 32 := 1#32
  let v162 : BitVec 32 := Scalar.muli v157 c1_i32_130
  let v163 : BitVec 32 := Scalar.addi c0_i32_131 v162
  v163.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v172 : BitVec 32 := Scalar.xori v2 c2_i32_135
  let c1_i32_142 : BitVec 32 := 1#32
  let v177 : BitVec 32 := Scalar.muli v172 c1_i32_142
  let v178 : BitVec 32 := Scalar.addi c0_i32_143 v177
  v178.toNat
def k0_dev17 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_147 : BitVec 32 := 5#32
  let v187 : BitVec 32 := Scalar.xori v2 c5_i32_147
  let c1_i32_154 : BitVec 32 := 1#32
  let v192 : BitVec 32 := Scalar.muli v187 c1_i32_154
  let v193 : BitVec 32 := Scalar.addi c0_i32_155 v192
  v193.toNat
def k0_dev18 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_159 : BitVec 32 := 7#32
  let v202 : BitVec 32 := Scalar.xori v2 c7_i32_159
  let c1_i32_166 : BitVec 32 := 1#32
  let v207 : BitVec 32 := Scalar.muli v202 c1_i32_166
  let v208 : BitVec 32 := Scalar.addi c0_i32_167 v207
  v208.toNat
def k0_dev19 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_171 : BitVec 32 := 1#32
  let v217 : BitVec 32 := Scalar.xori v2 c1_i32_171
  let c1_i32_178 : BitVec 32 := 1#32
  let v222 : BitVec 32 := Scalar.muli v217 c1_i32_178
  let v223 : BitVec 32 := Scalar.addi c0_i32_179 v222
  v223.toNat
def k0_dev20 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_183 : BitVec 32 := 3#32
  let v232 : BitVec 32 := Scalar.xori v2 c3_i32_183
  let c1_i32_190 : BitVec 32 := 1#32
  let v237 : BitVec 32 := Scalar.muli v232 c1_i32_190
  let v238 : BitVec 32 := Scalar.addi c0_i32_191 v237
  v238.toNat
def k0_dev21 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_195 : BitVec 32 := 4#32
  let v247 : BitVec 32 := Scalar.xori v2 c4_i32_195
  let c1_i32_202 : BitVec 32 := 1#32
  let v252 : BitVec 32 := Scalar.muli v247 c1_i32_202
  let v253 : BitVec 32 := Scalar.addi c0_i32_203 v252
  v253.toNat
def k0_off7 (d0 : Dev nD) : Fin 3 → Nat :=
  let c0_207 : Index := 0#32
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v8 : BitVec 32 := Scalar.muli c4_i32 v7
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v8 v9
  let c1_i32_0 : BitVec 32 := 1#32
  let v3 : BitVec 32 := Scalar.andi v2 c1_i32_0
  let v11 : BitVec 32 := Scalar.xori v3 v5
  let v12 : BitVec 32 := Scalar.addi v10 v11
  let c64_i32 : BitVec 32 := 64#32
  let v13 : BitVec 32 := Scalar.muli v12 c64_i32
  let v262 : Index := Scalar.indexCast v13
  let c0_208 : Index := 0#32
  ![0, v262.toNat, 0]
def k0_off8 (d0 : Dev nD) (c1_i32_209 : BitVec 32) : Fin 4 → Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v266 : BitVec 32 := Scalar.xori v2 c1_i32_209
  let c0_i32_216 : BitVec 32 := 0#32
  let c0_i32_217 : BitVec 32 := 0#32
  ![0, v266.toNat, 0, 0]
def k0_off9 (d0 : Dev nD) (c1_i32_209 : BitVec 32) : Fin 4 → Nat :=
  let c0_220 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v266 : BitVec 32 := Scalar.xori v2 c1_i32_209
  let v277 : Index := Scalar.indexCast v266
  let c0_221 : Index := 0#32
  let c0_222 : Index := 0#32
  ![0, v277.toNat, 0, 0]
def k0_off10 (d0 : Dev nD) : Fin 3 → Nat :=
  let c0_i32_314 : BitVec 32 := 0#32
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v8 : BitVec 32 := Scalar.muli c4_i32 v7
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v8 v9
  let c1_i32_0 : BitVec 32 := 1#32
  let v3 : BitVec 32 := Scalar.andi v2 c1_i32_0
  let v11 : BitVec 32 := Scalar.xori v3 v5
  let v12 : BitVec 32 := Scalar.addi v10 v11
  let c64_i32 : BitVec 32 := 64#32
  let v13 : BitVec 32 := Scalar.muli v12 c64_i32
  let c0_i32_317 : BitVec 32 := 0#32
  ![0, v13.toNat, 0]
def k0_dev22 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_310 : BitVec 32 := 6#32
  let v385 : BitVec 32 := Scalar.xori v2 c6_i32_310
  let c1_i32_315 : BitVec 32 := 1#32
  let v388 : BitVec 32 := Scalar.muli v385 c1_i32_315
  let v389 : BitVec 32 := Scalar.addi c0_i32_316 v388
  v389.toNat
def k0_dev23 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_319 : BitVec 32 := 2#32
  let v398 : BitVec 32 := Scalar.xori v2 c2_i32_319
  let c1_i32_324 : BitVec 32 := 1#32
  let v401 : BitVec 32 := Scalar.muli v398 c1_i32_324
  let v402 : BitVec 32 := Scalar.addi c0_i32_325 v401
  v402.toNat
def k0_dev24 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_328 : BitVec 32 := 5#32
  let v411 : BitVec 32 := Scalar.xori v2 c5_i32_328
  let c1_i32_333 : BitVec 32 := 1#32
  let v414 : BitVec 32 := Scalar.muli v411 c1_i32_333
  let v415 : BitVec 32 := Scalar.addi c0_i32_334 v414
  v415.toNat
def k0_dev25 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_337 : BitVec 32 := 7#32
  let v424 : BitVec 32 := Scalar.xori v2 c7_i32_337
  let c1_i32_342 : BitVec 32 := 1#32
  let v427 : BitVec 32 := Scalar.muli v424 c1_i32_342
  let v428 : BitVec 32 := Scalar.addi c0_i32_343 v427
  v428.toNat
def k0_dev26 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_346 : BitVec 32 := 1#32
  let v437 : BitVec 32 := Scalar.xori v2 c1_i32_346
  let c1_i32_351 : BitVec 32 := 1#32
  let v440 : BitVec 32 := Scalar.muli v437 c1_i32_351
  let v441 : BitVec 32 := Scalar.addi c0_i32_352 v440
  v441.toNat
def k0_dev27 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_355 : BitVec 32 := 3#32
  let v450 : BitVec 32 := Scalar.xori v2 c3_i32_355
  let c1_i32_360 : BitVec 32 := 1#32
  let v453 : BitVec 32 := Scalar.muli v450 c1_i32_360
  let v454 : BitVec 32 := Scalar.addi c0_i32_361 v453
  v454.toNat
def k0_dev28 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_364 : BitVec 32 := 4#32
  let v463 : BitVec 32 := Scalar.xori v2 c4_i32_364
  let c1_i32_369 : BitVec 32 := 1#32
  let v466 : BitVec 32 := Scalar.muli v463 c1_i32_369
  let v467 : BitVec 32 := Scalar.addi c0_i32_370 v466
  v467.toNat
def k0_off11 (d0 : Dev nD) : Fin 3 → Nat :=
  let c1_373 : Index := 1#32
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v8 : BitVec 32 := Scalar.muli c4_i32 v7
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v8 v9
  let c1_i32_0 : BitVec 32 := 1#32
  let v3 : BitVec 32 := Scalar.andi v2 c1_i32_0
  let v11 : BitVec 32 := Scalar.xori v3 v5
  let v12 : BitVec 32 := Scalar.addi v10 v11
  let c64_i32 : BitVec 32 := 64#32
  let v13 : BitVec 32 := Scalar.muli v12 c64_i32
  let v476 : Index := Scalar.indexCast v13
  let c0_374 : Index := 0#32
  ![1, v476.toNat, 0]
def k0_off12 (d0 : Dev nD) (c1_i32_375 : BitVec 32) : Fin 4 → Nat :=
  let c1_i32_379 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v480 : BitVec 32 := Scalar.xori v2 c1_i32_375
  let c0_i32_382 : BitVec 32 := 0#32
  let c0_i32_383 : BitVec 32 := 0#32
  ![1, v480.toNat, 0, 0]
def k0_off13 (d0 : Dev nD) (c1_i32_375 : BitVec 32) : Fin 4 → Nat :=
  let c1_386 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v480 : BitVec 32 := Scalar.xori v2 c1_i32_375
  let v491 : Index := Scalar.indexCast v480
  let c0_387 : Index := 0#32
  let c0_388 : Index := 0#32
  ![1, v491.toNat, 0, 0]
def k0_off14 (d0 : Dev nD) : Fin 3 → Nat :=
  let c1_i32_480 : BitVec 32 := 1#32
  let c4_i32 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v8 : BitVec 32 := Scalar.muli c4_i32 v7
  let c2_i32_4 : BitVec 32 := 2#32
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.muli c2_i32_4 v5
  let v10 : BitVec 32 := Scalar.addi v8 v9
  let c1_i32_0 : BitVec 32 := 1#32
  let v3 : BitVec 32 := Scalar.andi v2 c1_i32_0
  let v11 : BitVec 32 := Scalar.xori v3 v5
  let v12 : BitVec 32 := Scalar.addi v10 v11
  let c64_i32 : BitVec 32 := 64#32
  let v13 : BitVec 32 := Scalar.muli v12 c64_i32
  let c0_i32_483 : BitVec 32 := 0#32
  ![1, v13.toNat, 0]
def k0_dev29 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_476 : BitVec 32 := 6#32
  let v599 : BitVec 32 := Scalar.xori v2 c6_i32_476
  let c1_i32_481 : BitVec 32 := 1#32
  let v602 : BitVec 32 := Scalar.muli v599 c1_i32_481
  let v603 : BitVec 32 := Scalar.addi c0_i32_482 v602
  v603.toNat
def k0_dev30 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_485 : BitVec 32 := 2#32
  let v612 : BitVec 32 := Scalar.xori v2 c2_i32_485
  let c1_i32_490 : BitVec 32 := 1#32
  let v615 : BitVec 32 := Scalar.muli v612 c1_i32_490
  let v616 : BitVec 32 := Scalar.addi c0_i32_491 v615
  v616.toNat
def k0_dev31 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_494 : BitVec 32 := 5#32
  let v625 : BitVec 32 := Scalar.xori v2 c5_i32_494
  let c1_i32_499 : BitVec 32 := 1#32
  let v628 : BitVec 32 := Scalar.muli v625 c1_i32_499
  let v629 : BitVec 32 := Scalar.addi c0_i32_500 v628
  v629.toNat
def k0_dev32 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_503 : BitVec 32 := 7#32
  let v638 : BitVec 32 := Scalar.xori v2 c7_i32_503
  let c1_i32_508 : BitVec 32 := 1#32
  let v641 : BitVec 32 := Scalar.muli v638 c1_i32_508
  let v642 : BitVec 32 := Scalar.addi c0_i32_509 v641
  v642.toNat
def k0_dev33 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_512 : BitVec 32 := 1#32
  let v651 : BitVec 32 := Scalar.xori v2 c1_i32_512
  let c1_i32_517 : BitVec 32 := 1#32
  let v654 : BitVec 32 := Scalar.muli v651 c1_i32_517
  let v655 : BitVec 32 := Scalar.addi c0_i32_518 v654
  v655.toNat
def k0_dev34 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_521 : BitVec 32 := 3#32
  let v664 : BitVec 32 := Scalar.xori v2 c3_i32_521
  let c1_i32_526 : BitVec 32 := 1#32
  let v667 : BitVec 32 := Scalar.muli v664 c1_i32_526
  let v668 : BitVec 32 := Scalar.addi c0_i32_527 v667
  v668.toNat
def k0_dev35 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_530 : BitVec 32 := 4#32
  let v677 : BitVec 32 := Scalar.xori v2 c4_i32_530
  let c1_i32_535 : BitVec 32 := 1#32
  let v680 : BitVec 32 := Scalar.muli v677 c1_i32_535
  let v681 : BitVec 32 := Scalar.addi c0_i32_536 v680
  v681.toNat
def k0_dev36 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_865 : BitVec 32 := 6#32
  let v1031 : BitVec 32 := Scalar.xori v2 c6_i32_865
  let c1_i32_871 : BitVec 32 := 1#32
  let v1036 : BitVec 32 := Scalar.muli v1031 c1_i32_871
  let v1037 : BitVec 32 := Scalar.addi c0_i32_872 v1036
  v1037.toNat
def k0_dev37 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_876 : BitVec 32 := 2#32
  let v1046 : BitVec 32 := Scalar.xori v2 c2_i32_876
  let c1_i32_883 : BitVec 32 := 1#32
  let v1051 : BitVec 32 := Scalar.muli v1046 c1_i32_883
  let v1052 : BitVec 32 := Scalar.addi c0_i32_884 v1051
  v1052.toNat
def k0_dev38 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_888 : BitVec 32 := 5#32
  let v1061 : BitVec 32 := Scalar.xori v2 c5_i32_888
  let c1_i32_895 : BitVec 32 := 1#32
  let v1066 : BitVec 32 := Scalar.muli v1061 c1_i32_895
  let v1067 : BitVec 32 := Scalar.addi c0_i32_896 v1066
  v1067.toNat
def k0_dev39 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_900 : BitVec 32 := 7#32
  let v1076 : BitVec 32 := Scalar.xori v2 c7_i32_900
  let c1_i32_907 : BitVec 32 := 1#32
  let v1081 : BitVec 32 := Scalar.muli v1076 c1_i32_907
  let v1082 : BitVec 32 := Scalar.addi c0_i32_908 v1081
  v1082.toNat
def k0_dev40 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_912 : BitVec 32 := 1#32
  let v1091 : BitVec 32 := Scalar.xori v2 c1_i32_912
  let c1_i32_919 : BitVec 32 := 1#32
  let v1096 : BitVec 32 := Scalar.muli v1091 c1_i32_919
  let v1097 : BitVec 32 := Scalar.addi c0_i32_920 v1096
  v1097.toNat
def k0_dev41 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_924 : BitVec 32 := 3#32
  let v1106 : BitVec 32 := Scalar.xori v2 c3_i32_924
  let c1_i32_931 : BitVec 32 := 1#32
  let v1111 : BitVec 32 := Scalar.muli v1106 c1_i32_931
  let v1112 : BitVec 32 := Scalar.addi c0_i32_932 v1111
  v1112.toNat
def k0_dev42 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_936 : BitVec 32 := 4#32
  let v1121 : BitVec 32 := Scalar.xori v2 c4_i32_936
  let c1_i32_943 : BitVec 32 := 1#32
  let v1126 : BitVec 32 := Scalar.muli v1121 c1_i32_943
  let v1127 : BitVec 32 := Scalar.addi c0_i32_944 v1126
  v1127.toNat
def k0_dev43 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_954 : BitVec 32 := 6#32
  let v1143 : BitVec 32 := Scalar.xori v2 c6_i32_954
  let c1_i32_960 : BitVec 32 := 1#32
  let v1148 : BitVec 32 := Scalar.muli v1143 c1_i32_960
  let v1149 : BitVec 32 := Scalar.addi c0_i32_961 v1148
  v1149.toNat
def k0_dev44 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_965 : BitVec 32 := 2#32
  let v1158 : BitVec 32 := Scalar.xori v2 c2_i32_965
  let c1_i32_972 : BitVec 32 := 1#32
  let v1163 : BitVec 32 := Scalar.muli v1158 c1_i32_972
  let v1164 : BitVec 32 := Scalar.addi c0_i32_973 v1163
  v1164.toNat
def k0_dev45 (d0 : Dev nD) : Nat :=
  let c0_i32_985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_977 : BitVec 32 := 5#32
  let v1173 : BitVec 32 := Scalar.xori v2 c5_i32_977
  let c1_i32_984 : BitVec 32 := 1#32
  let v1178 : BitVec 32 := Scalar.muli v1173 c1_i32_984
  let v1179 : BitVec 32 := Scalar.addi c0_i32_985 v1178
  v1179.toNat
def k0_dev46 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_989 : BitVec 32 := 7#32
  let v1188 : BitVec 32 := Scalar.xori v2 c7_i32_989
  let c1_i32_996 : BitVec 32 := 1#32
  let v1193 : BitVec 32 := Scalar.muli v1188 c1_i32_996
  let v1194 : BitVec 32 := Scalar.addi c0_i32_997 v1193
  v1194.toNat
def k0_dev47 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1001 : BitVec 32 := 1#32
  let v1203 : BitVec 32 := Scalar.xori v2 c1_i32_1001
  let c1_i32_1008 : BitVec 32 := 1#32
  let v1208 : BitVec 32 := Scalar.muli v1203 c1_i32_1008
  let v1209 : BitVec 32 := Scalar.addi c0_i32_1009 v1208
  v1209.toNat
def k0_dev48 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1013 : BitVec 32 := 3#32
  let v1218 : BitVec 32 := Scalar.xori v2 c3_i32_1013
  let c1_i32_1020 : BitVec 32 := 1#32
  let v1223 : BitVec 32 := Scalar.muli v1218 c1_i32_1020
  let v1224 : BitVec 32 := Scalar.addi c0_i32_1021 v1223
  v1224.toNat
def k0_dev49 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1025 : BitVec 32 := 4#32
  let v1233 : BitVec 32 := Scalar.xori v2 c4_i32_1025
  let c1_i32_1032 : BitVec 32 := 1#32
  let v1238 : BitVec 32 := Scalar.muli v1233 c1_i32_1032
  let v1239 : BitVec 32 := Scalar.addi c0_i32_1033 v1238
  v1239.toNat
def k0_dev50 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1210 : BitVec 32 := 6#32
  let v1434 : BitVec 32 := Scalar.xori v2 c6_i32_1210
  let c1_i32_1215 : BitVec 32 := 1#32
  let v1437 : BitVec 32 := Scalar.muli v1434 c1_i32_1215
  let v1438 : BitVec 32 := Scalar.addi c0_i32_1216 v1437
  v1438.toNat
def k0_dev51 (d0 : Dev nD) : Nat :=
  let c0_i32_1225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1219 : BitVec 32 := 2#32
  let v1447 : BitVec 32 := Scalar.xori v2 c2_i32_1219
  let c1_i32_1224 : BitVec 32 := 1#32
  let v1450 : BitVec 32 := Scalar.muli v1447 c1_i32_1224
  let v1451 : BitVec 32 := Scalar.addi c0_i32_1225 v1450
  v1451.toNat
def k0_dev52 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1228 : BitVec 32 := 5#32
  let v1460 : BitVec 32 := Scalar.xori v2 c5_i32_1228
  let c1_i32_1233 : BitVec 32 := 1#32
  let v1463 : BitVec 32 := Scalar.muli v1460 c1_i32_1233
  let v1464 : BitVec 32 := Scalar.addi c0_i32_1234 v1463
  v1464.toNat
def k0_dev53 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1237 : BitVec 32 := 7#32
  let v1473 : BitVec 32 := Scalar.xori v2 c7_i32_1237
  let c1_i32_1242 : BitVec 32 := 1#32
  let v1476 : BitVec 32 := Scalar.muli v1473 c1_i32_1242
  let v1477 : BitVec 32 := Scalar.addi c0_i32_1243 v1476
  v1477.toNat
def k0_dev54 (d0 : Dev nD) : Nat :=
  let c0_i32_1252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1246 : BitVec 32 := 1#32
  let v1486 : BitVec 32 := Scalar.xori v2 c1_i32_1246
  let c1_i32_1251 : BitVec 32 := 1#32
  let v1489 : BitVec 32 := Scalar.muli v1486 c1_i32_1251
  let v1490 : BitVec 32 := Scalar.addi c0_i32_1252 v1489
  v1490.toNat
def k0_dev55 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1255 : BitVec 32 := 3#32
  let v1499 : BitVec 32 := Scalar.xori v2 c3_i32_1255
  let c1_i32_1260 : BitVec 32 := 1#32
  let v1502 : BitVec 32 := Scalar.muli v1499 c1_i32_1260
  let v1503 : BitVec 32 := Scalar.addi c0_i32_1261 v1502
  v1503.toNat
def k0_dev56 (d0 : Dev nD) : Nat :=
  let c0_i32_1270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1264 : BitVec 32 := 4#32
  let v1512 : BitVec 32 := Scalar.xori v2 c4_i32_1264
  let c1_i32_1269 : BitVec 32 := 1#32
  let v1515 : BitVec 32 := Scalar.muli v1512 c1_i32_1269
  let v1516 : BitVec 32 := Scalar.addi c0_i32_1270 v1515
  v1516.toNat
def k0_dev57 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1446 : BitVec 32 := 6#32
  let v1711 : BitVec 32 := Scalar.xori v2 c6_i32_1446
  let c1_i32_1451 : BitVec 32 := 1#32
  let v1714 : BitVec 32 := Scalar.muli v1711 c1_i32_1451
  let v1715 : BitVec 32 := Scalar.addi c0_i32_1452 v1714
  v1715.toNat
def k0_dev58 (d0 : Dev nD) : Nat :=
  let c0_i32_1461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1455 : BitVec 32 := 2#32
  let v1724 : BitVec 32 := Scalar.xori v2 c2_i32_1455
  let c1_i32_1460 : BitVec 32 := 1#32
  let v1727 : BitVec 32 := Scalar.muli v1724 c1_i32_1460
  let v1728 : BitVec 32 := Scalar.addi c0_i32_1461 v1727
  v1728.toNat
def k0_dev59 (d0 : Dev nD) : Nat :=
  let c0_i32_1470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1464 : BitVec 32 := 5#32
  let v1737 : BitVec 32 := Scalar.xori v2 c5_i32_1464
  let c1_i32_1469 : BitVec 32 := 1#32
  let v1740 : BitVec 32 := Scalar.muli v1737 c1_i32_1469
  let v1741 : BitVec 32 := Scalar.addi c0_i32_1470 v1740
  v1741.toNat
def k0_dev60 (d0 : Dev nD) : Nat :=
  let c0_i32_1479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1473 : BitVec 32 := 7#32
  let v1750 : BitVec 32 := Scalar.xori v2 c7_i32_1473
  let c1_i32_1478 : BitVec 32 := 1#32
  let v1753 : BitVec 32 := Scalar.muli v1750 c1_i32_1478
  let v1754 : BitVec 32 := Scalar.addi c0_i32_1479 v1753
  v1754.toNat
def k0_dev61 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1482 : BitVec 32 := 1#32
  let v1763 : BitVec 32 := Scalar.xori v2 c1_i32_1482
  let c1_i32_1487 : BitVec 32 := 1#32
  let v1766 : BitVec 32 := Scalar.muli v1763 c1_i32_1487
  let v1767 : BitVec 32 := Scalar.addi c0_i32_1488 v1766
  v1767.toNat
def k0_dev62 (d0 : Dev nD) : Nat :=
  let c0_i32_1497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1491 : BitVec 32 := 3#32
  let v1776 : BitVec 32 := Scalar.xori v2 c3_i32_1491
  let c1_i32_1496 : BitVec 32 := 1#32
  let v1779 : BitVec 32 := Scalar.muli v1776 c1_i32_1496
  let v1780 : BitVec 32 := Scalar.addi c0_i32_1497 v1779
  v1780.toNat
def k0_dev63 (d0 : Dev nD) : Nat :=
  let c0_i32_1506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1500 : BitVec 32 := 4#32
  let v1789 : BitVec 32 := Scalar.xori v2 c4_i32_1500
  let c1_i32_1505 : BitVec 32 := 1#32
  let v1792 : BitVec 32 := Scalar.muli v1789 c1_i32_1505
  let v1793 : BitVec 32 := Scalar.addi c0_i32_1506 v1792
  v1793.toNat
def k0_dev64 (d0 : Dev nD) : Nat :=
  let c0_i32_1842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1835 : BitVec 32 := 6#32
  let v2143 : BitVec 32 := Scalar.xori v2 c6_i32_1835
  let c1_i32_1841 : BitVec 32 := 1#32
  let v2148 : BitVec 32 := Scalar.muli v2143 c1_i32_1841
  let v2149 : BitVec 32 := Scalar.addi c0_i32_1842 v2148
  v2149.toNat
def k0_dev65 (d0 : Dev nD) : Nat :=
  let c0_i32_1854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1846 : BitVec 32 := 2#32
  let v2158 : BitVec 32 := Scalar.xori v2 c2_i32_1846
  let c1_i32_1853 : BitVec 32 := 1#32
  let v2163 : BitVec 32 := Scalar.muli v2158 c1_i32_1853
  let v2164 : BitVec 32 := Scalar.addi c0_i32_1854 v2163
  v2164.toNat
def k0_dev66 (d0 : Dev nD) : Nat :=
  let c0_i32_1866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1858 : BitVec 32 := 5#32
  let v2173 : BitVec 32 := Scalar.xori v2 c5_i32_1858
  let c1_i32_1865 : BitVec 32 := 1#32
  let v2178 : BitVec 32 := Scalar.muli v2173 c1_i32_1865
  let v2179 : BitVec 32 := Scalar.addi c0_i32_1866 v2178
  v2179.toNat
def k0_dev67 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1870 : BitVec 32 := 7#32
  let v2188 : BitVec 32 := Scalar.xori v2 c7_i32_1870
  let c1_i32_1877 : BitVec 32 := 1#32
  let v2193 : BitVec 32 := Scalar.muli v2188 c1_i32_1877
  let v2194 : BitVec 32 := Scalar.addi c0_i32_1878 v2193
  v2194.toNat
def k0_dev68 (d0 : Dev nD) : Nat :=
  let c0_i32_1890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1882 : BitVec 32 := 1#32
  let v2203 : BitVec 32 := Scalar.xori v2 c1_i32_1882
  let c1_i32_1889 : BitVec 32 := 1#32
  let v2208 : BitVec 32 := Scalar.muli v2203 c1_i32_1889
  let v2209 : BitVec 32 := Scalar.addi c0_i32_1890 v2208
  v2209.toNat
def k0_dev69 (d0 : Dev nD) : Nat :=
  let c0_i32_1902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1894 : BitVec 32 := 3#32
  let v2218 : BitVec 32 := Scalar.xori v2 c3_i32_1894
  let c1_i32_1901 : BitVec 32 := 1#32
  let v2223 : BitVec 32 := Scalar.muli v2218 c1_i32_1901
  let v2224 : BitVec 32 := Scalar.addi c0_i32_1902 v2223
  v2224.toNat
def k0_dev70 (d0 : Dev nD) : Nat :=
  let c0_i32_1914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1906 : BitVec 32 := 4#32
  let v2233 : BitVec 32 := Scalar.xori v2 c4_i32_1906
  let c1_i32_1913 : BitVec 32 := 1#32
  let v2238 : BitVec 32 := Scalar.muli v2233 c1_i32_1913
  let v2239 : BitVec 32 := Scalar.addi c0_i32_1914 v2238
  v2239.toNat
def k0_dev71 (d0 : Dev nD) : Nat :=
  let c0_i32_1931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1924 : BitVec 32 := 6#32
  let v2255 : BitVec 32 := Scalar.xori v2 c6_i32_1924
  let c1_i32_1930 : BitVec 32 := 1#32
  let v2260 : BitVec 32 := Scalar.muli v2255 c1_i32_1930
  let v2261 : BitVec 32 := Scalar.addi c0_i32_1931 v2260
  v2261.toNat
def k0_dev72 (d0 : Dev nD) : Nat :=
  let c0_i32_1943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1935 : BitVec 32 := 2#32
  let v2270 : BitVec 32 := Scalar.xori v2 c2_i32_1935
  let c1_i32_1942 : BitVec 32 := 1#32
  let v2275 : BitVec 32 := Scalar.muli v2270 c1_i32_1942
  let v2276 : BitVec 32 := Scalar.addi c0_i32_1943 v2275
  v2276.toNat
def k0_dev73 (d0 : Dev nD) : Nat :=
  let c0_i32_1955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1947 : BitVec 32 := 5#32
  let v2285 : BitVec 32 := Scalar.xori v2 c5_i32_1947
  let c1_i32_1954 : BitVec 32 := 1#32
  let v2290 : BitVec 32 := Scalar.muli v2285 c1_i32_1954
  let v2291 : BitVec 32 := Scalar.addi c0_i32_1955 v2290
  v2291.toNat
def k0_dev74 (d0 : Dev nD) : Nat :=
  let c0_i32_1967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1959 : BitVec 32 := 7#32
  let v2300 : BitVec 32 := Scalar.xori v2 c7_i32_1959
  let c1_i32_1966 : BitVec 32 := 1#32
  let v2305 : BitVec 32 := Scalar.muli v2300 c1_i32_1966
  let v2306 : BitVec 32 := Scalar.addi c0_i32_1967 v2305
  v2306.toNat
def k0_dev75 (d0 : Dev nD) : Nat :=
  let c0_i32_1979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1971 : BitVec 32 := 1#32
  let v2315 : BitVec 32 := Scalar.xori v2 c1_i32_1971
  let c1_i32_1978 : BitVec 32 := 1#32
  let v2320 : BitVec 32 := Scalar.muli v2315 c1_i32_1978
  let v2321 : BitVec 32 := Scalar.addi c0_i32_1979 v2320
  v2321.toNat
def k0_dev76 (d0 : Dev nD) : Nat :=
  let c0_i32_1991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1983 : BitVec 32 := 3#32
  let v2330 : BitVec 32 := Scalar.xori v2 c3_i32_1983
  let c1_i32_1990 : BitVec 32 := 1#32
  let v2335 : BitVec 32 := Scalar.muli v2330 c1_i32_1990
  let v2336 : BitVec 32 := Scalar.addi c0_i32_1991 v2335
  v2336.toNat
def k0_dev77 (d0 : Dev nD) : Nat :=
  let c0_i32_2003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1995 : BitVec 32 := 4#32
  let v2345 : BitVec 32 := Scalar.xori v2 c4_i32_1995
  let c1_i32_2002 : BitVec 32 := 1#32
  let v2350 : BitVec 32 := Scalar.muli v2345 c1_i32_2002
  let v2351 : BitVec 32 := Scalar.addi c0_i32_2003 v2350
  v2351.toNat
def k0_dev78 (d0 : Dev nD) : Nat :=
  let c0_i32_2186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2180 : BitVec 32 := 6#32
  let v2546 : BitVec 32 := Scalar.xori v2 c6_i32_2180
  let c1_i32_2185 : BitVec 32 := 1#32
  let v2549 : BitVec 32 := Scalar.muli v2546 c1_i32_2185
  let v2550 : BitVec 32 := Scalar.addi c0_i32_2186 v2549
  v2550.toNat
def k0_dev79 (d0 : Dev nD) : Nat :=
  let c0_i32_2195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2189 : BitVec 32 := 2#32
  let v2559 : BitVec 32 := Scalar.xori v2 c2_i32_2189
  let c1_i32_2194 : BitVec 32 := 1#32
  let v2562 : BitVec 32 := Scalar.muli v2559 c1_i32_2194
  let v2563 : BitVec 32 := Scalar.addi c0_i32_2195 v2562
  v2563.toNat
def k0_dev80 (d0 : Dev nD) : Nat :=
  let c0_i32_2204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2198 : BitVec 32 := 5#32
  let v2572 : BitVec 32 := Scalar.xori v2 c5_i32_2198
  let c1_i32_2203 : BitVec 32 := 1#32
  let v2575 : BitVec 32 := Scalar.muli v2572 c1_i32_2203
  let v2576 : BitVec 32 := Scalar.addi c0_i32_2204 v2575
  v2576.toNat
def k0_dev81 (d0 : Dev nD) : Nat :=
  let c0_i32_2213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2207 : BitVec 32 := 7#32
  let v2585 : BitVec 32 := Scalar.xori v2 c7_i32_2207
  let c1_i32_2212 : BitVec 32 := 1#32
  let v2588 : BitVec 32 := Scalar.muli v2585 c1_i32_2212
  let v2589 : BitVec 32 := Scalar.addi c0_i32_2213 v2588
  v2589.toNat
def k0_dev82 (d0 : Dev nD) : Nat :=
  let c0_i32_2222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2216 : BitVec 32 := 1#32
  let v2598 : BitVec 32 := Scalar.xori v2 c1_i32_2216
  let c1_i32_2221 : BitVec 32 := 1#32
  let v2601 : BitVec 32 := Scalar.muli v2598 c1_i32_2221
  let v2602 : BitVec 32 := Scalar.addi c0_i32_2222 v2601
  v2602.toNat
def k0_dev83 (d0 : Dev nD) : Nat :=
  let c0_i32_2231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2225 : BitVec 32 := 3#32
  let v2611 : BitVec 32 := Scalar.xori v2 c3_i32_2225
  let c1_i32_2230 : BitVec 32 := 1#32
  let v2614 : BitVec 32 := Scalar.muli v2611 c1_i32_2230
  let v2615 : BitVec 32 := Scalar.addi c0_i32_2231 v2614
  v2615.toNat
def k0_dev84 (d0 : Dev nD) : Nat :=
  let c0_i32_2240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2234 : BitVec 32 := 4#32
  let v2624 : BitVec 32 := Scalar.xori v2 c4_i32_2234
  let c1_i32_2239 : BitVec 32 := 1#32
  let v2627 : BitVec 32 := Scalar.muli v2624 c1_i32_2239
  let v2628 : BitVec 32 := Scalar.addi c0_i32_2240 v2627
  v2628.toNat
def k0_dev85 (d0 : Dev nD) : Nat :=
  let c0_i32_2422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2416 : BitVec 32 := 6#32
  let v2823 : BitVec 32 := Scalar.xori v2 c6_i32_2416
  let c1_i32_2421 : BitVec 32 := 1#32
  let v2826 : BitVec 32 := Scalar.muli v2823 c1_i32_2421
  let v2827 : BitVec 32 := Scalar.addi c0_i32_2422 v2826
  v2827.toNat
def k0_dev86 (d0 : Dev nD) : Nat :=
  let c0_i32_2431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2425 : BitVec 32 := 2#32
  let v2836 : BitVec 32 := Scalar.xori v2 c2_i32_2425
  let c1_i32_2430 : BitVec 32 := 1#32
  let v2839 : BitVec 32 := Scalar.muli v2836 c1_i32_2430
  let v2840 : BitVec 32 := Scalar.addi c0_i32_2431 v2839
  v2840.toNat
def k0_dev87 (d0 : Dev nD) : Nat :=
  let c0_i32_2440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2434 : BitVec 32 := 5#32
  let v2849 : BitVec 32 := Scalar.xori v2 c5_i32_2434
  let c1_i32_2439 : BitVec 32 := 1#32
  let v2852 : BitVec 32 := Scalar.muli v2849 c1_i32_2439
  let v2853 : BitVec 32 := Scalar.addi c0_i32_2440 v2852
  v2853.toNat
def k0_dev88 (d0 : Dev nD) : Nat :=
  let c0_i32_2449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2443 : BitVec 32 := 7#32
  let v2862 : BitVec 32 := Scalar.xori v2 c7_i32_2443
  let c1_i32_2448 : BitVec 32 := 1#32
  let v2865 : BitVec 32 := Scalar.muli v2862 c1_i32_2448
  let v2866 : BitVec 32 := Scalar.addi c0_i32_2449 v2865
  v2866.toNat
def k0_dev89 (d0 : Dev nD) : Nat :=
  let c0_i32_2458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2452 : BitVec 32 := 1#32
  let v2875 : BitVec 32 := Scalar.xori v2 c1_i32_2452
  let c1_i32_2457 : BitVec 32 := 1#32
  let v2878 : BitVec 32 := Scalar.muli v2875 c1_i32_2457
  let v2879 : BitVec 32 := Scalar.addi c0_i32_2458 v2878
  v2879.toNat
def k0_dev90 (d0 : Dev nD) : Nat :=
  let c0_i32_2467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2461 : BitVec 32 := 3#32
  let v2888 : BitVec 32 := Scalar.xori v2 c3_i32_2461
  let c1_i32_2466 : BitVec 32 := 1#32
  let v2891 : BitVec 32 := Scalar.muli v2888 c1_i32_2466
  let v2892 : BitVec 32 := Scalar.addi c0_i32_2467 v2891
  v2892.toNat
def k0_dev91 (d0 : Dev nD) : Nat :=
  let c0_i32_2476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2470 : BitVec 32 := 4#32
  let v2901 : BitVec 32 := Scalar.xori v2 c4_i32_2470
  let c1_i32_2475 : BitVec 32 := 1#32
  let v2904 : BitVec 32 := Scalar.muli v2901 c1_i32_2475
  let v2905 : BitVec 32 := Scalar.addi c0_i32_2476 v2904
  v2905.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S512x2048, .bf16⟩
  | .hbm, ⟨5, _⟩ => ⟨S512x2048, .bf16⟩
  | .hbm, ⟨6, _⟩ => ⟨S512x2048, .bf16⟩
  | .hbm, ⟨7, _⟩ => ⟨S512x512, .f32⟩
  | .hbm, ⟨8, _⟩ => ⟨S512x512, .bf16⟩
  | .hbm, ⟨9, _⟩ => ⟨S_, .bf16⟩
  | .hbm, ⟨10, _⟩ => ⟨S512x512, .bf16⟩
  | .hbm, ⟨11, _⟩ => ⟨S512x512, .bf16⟩
  | .hbm, ⟨12, _⟩ => ⟨S512x2048, .f32⟩
  | .hbm, ⟨13, _⟩ => ⟨S512x2048, .bf16⟩
  | .hbm, ⟨14, _⟩ => ⟨S512x512, .f32⟩
  | .hbm, ⟨15, _⟩ => ⟨S512x512, .bf16⟩
  | .hbm, ⟨16, _⟩ => ⟨S_, .bf16⟩
  | .hbm, ⟨17, _⟩ => ⟨S512x512, .bf16⟩
  | .hbm, ⟨18, _⟩ => ⟨S512x512, .bf16⟩
  | .hbm, ⟨19, _⟩ => ⟨S512x2048, .f32⟩
  | .hbm, ⟨20, _⟩ => ⟨S512x2048, .bf16⟩
  | .hbm, ⟨21, _⟩ => ⟨S512x512, .f32⟩
  | .hbm, ⟨22, _⟩ => ⟨S512x512, .bf16⟩
  | .hbm, ⟨23, _⟩ => ⟨S_, .bf16⟩
  | .hbm, ⟨24, _⟩ => ⟨S512x512, .bf16⟩
  | .hbm, ⟨25, _⟩ => ⟨S512x512, .bf16⟩
  | .hbm, ⟨26, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Common.lean ====
/-
  The exchange as data: the devices and their chunks, the element sets that travel, the contents of the buffers, the cells and their one-round schedule, the levels and the dues.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Idealize.ShloMosaic.Pipeline (Dat Cfg Window BodyObligation cellOf)

variable {F : FTy → Type} [FloatOps F]

/-! ## The devices: peers by mask, chunk positions -/

set_option backward.proofsInPublic true in
/-- The peer of device `c` at mask `m`. -/
def px (c : Dev nD) (m : Fin 8) : Dev nD := ⟨c.val ^^^ m.val, Nat.xor_lt_two_pow (n := 3) c.isLt m.isLt⟩
set_option backward.proofsInPublic true in
/-- The mask that separates two devices. -/
def mk (c p : Dev nD) : Fin 8 := ⟨c.val ^^^ p.val, Nat.xor_lt_two_pow (n := 3) c.isLt p.isLt⟩
/-- The chunk a device owns, and the device that owns a chunk. -/
def pos (c : Fin 8) : Fin 8 := match c with | 0 => 0 | 1 => 1 | 2 => 3 | 3 => 2 | 4 => 4 | 5 => 5 | 6 => 7 | 7 => 6

theorem px_px (c : Dev nD) (m : Fin 8) : px (px c m) m = c := by revert c m; decide
theorem mk_px (c : Dev nD) (m : Fin 8) : mk c (px c m) = m := by revert c m; decide
theorem px_mk (c p : Dev nD) : px c (mk c p) = p := by revert c p; decide
theorem mk_px' (c : Dev nD) (m : Fin 8) : mk (px c m) c = m := by revert c m; decide
theorem px_ne (c : Dev nD) {m : Fin 8} (hm : m ≠ 0) : px c m ≠ c := by revert c m; decide
theorem px_zero (c : Dev nD) : px c 0 = c := by revert c; decide
theorem px_inj (c : Dev nD) {m m' : Fin 8} (h : px c m = px c m') : m = m' := by revert c m m'; decide
theorem pos_pos (c : Fin 8) : pos (pos c) = c := by revert c; decide
theorem pos_inj {c d : Fin 8} (h : pos c = pos d) : c = d := by rw [← pos_pos c, h, pos_pos]

def peers : Finset (Fin 8) := Finset.univ.erase 0
theorem mem_peers {m : Fin 8} : m ∈ peers ↔ m ≠ 0 := by unfold peers; simp
/-- The order of the sends and the order of the waits. -/
abbrev desc : List (Fin 8) := [6, 2, 5, 7, 1, 3, 4]
abbrev asc : List (Fin 8) := [1, 3, 4, 2, 5, 7, 6]

/-! ## The resource algebra -/

abbrev D : Type := Dev nD
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The element sets -/

/-- Half `h`, chunk `q` of a buffer of two halves of eight chunks of rows. -/
def chunkSet (h : ℕ) (q : Fin 8) : Finset S2x512x256.Idx := Finset.univ.filter fun i => (i 0).val = h ∧ (i 1).val / 64 = q.val
def halfSet (h : ℕ) : Finset S2x512x256.Idx := Finset.univ.filter fun i => (i 0).val = h
/-- Half `h`, slot `j` of the receive buffer. -/
def slotSet (h : ℕ) (j : Fin 8) : Finset S2x8x64x256.Idx := Finset.univ.filter fun i => (i 0).val = h ∧ (i 1).val = j.val

theorem mem_chunkSet {h q i} : i ∈ chunkSet h q ↔ (i 0).val = h ∧ (i 1).val / 64 = q.val := by unfold chunkSet; simp only [Finset.mem_filter, Finset.mem_univ, true_and]
theorem mem_halfSet {h i} : i ∈ halfSet h ↔ (i 0).val = h := by unfold halfSet; simp only [Finset.mem_filter, Finset.mem_univ, true_and]
theorem mem_slotSet {h j i} : i ∈ slotSet h j ↔ (i 0).val = h ∧ (i 1).val = j.val := by unfold slotSet; simp only [Finset.mem_filter, Finset.mem_univ, true_and]

abbrev hM : Memref sig .tc .vmem S2x512x256 .bf16 := Memref.whole cc0_scratch0
abbrev rM : Memref sig .tc .vmem S2x8x64x256 .bf16 := Memref.whole cc0_scratch1
abbrev gM : Memref sig .tc .vmem S2x512x256 .bf16 := Memref.whole cc0_scratch2

theorem unit3_set {off : Fin 3 → ℕ} {inb : ∀ a, off a + S1x64x256.size a ≤ S2x512x256.size a} {h : ℕ} {q : Fin 8} (e : off = ![h, 64 * q.val, 0]) :
    (Rect.unit (s := S2x512x256) off S1x64x256.size inb).set = chunkSet h q := by
  subst e
  ext i
  rw [Rect.mem_set_unit, mem_chunkSet]
  have h2 : (i 2).val < 256 := (i 2).isLt
  refine ⟨fun hh => ?_, fun hh a => ?_⟩
  · have h0 := hh 0
    have h1 := hh 1
    simp only [Matrix.cons_val_zero, Matrix.cons_val_one] at h0 h1
    change h ≤ (i 0).val ∧ (i 0).val < h + 1 at h0
    change 64 * q.val ≤ (i 1).val ∧ (i 1).val < 64 * q.val + 64 at h1
    omega
  · fin_cases a
    · change h ≤ (i 0).val ∧ (i 0).val < h + 1; omega
    · change 64 * q.val ≤ (i 1).val ∧ (i 1).val < 64 * q.val + 64; omega
    · change 0 ≤ (i 2).val ∧ (i 2).val < 0 + 256; omega

theorem unit3h_set {off : Fin 3 → ℕ} {inb : ∀ a, off a + S1x512x256.size a ≤ S2x512x256.size a} {h : ℕ} (e : off = ![h, 0, 0]) :
    (Rect.unit (s := S2x512x256) off S1x512x256.size inb).set = halfSet h := by
  subst e
  ext i
  rw [Rect.mem_set_unit, mem_halfSet]
  have h1 : (i 1).val < 512 := (i 1).isLt
  have h2 : (i 2).val < 256 := (i 2).isLt
  refine ⟨fun hh => ?_, fun hh a => ?_⟩
  · have h0 := hh 0
    change h ≤ (i 0).val ∧ (i 0).val < h + 1 at h0
    omega
  · fin_cases a
    · change h ≤ (i 0).val ∧ (i 0).val < h + 1; omega
    · change 0 ≤ (i 1).val ∧ (i 1).val < 0 + 512; omega
    · change 0 ≤ (i 2).val ∧ (i 2).val < 0 + 256; omega

theorem unit4_set {off : Fin 4 → ℕ} {inb : ∀ a, off a + S1x1x64x256.size a ≤ S2x8x64x256.size a} {h : ℕ} {j : Fin 8} (e : off = ![h, j.val, 0, 0]) :
    (Rect.unit (s := S2x8x64x256) off S1x1x64x256.size inb).set = slotSet h j := by
  subst e
  ext i
  rw [Rect.mem_set_unit, mem_slotSet]
  have h2 : (i 2).val < 64 := (i 2).isLt
  have h3 : (i 3).val < 256 := (i 3).isLt
  refine ⟨fun hh => ?_, fun hh a => ?_⟩
  · have h0 := hh 0
    have h1 := hh 1
    change h ≤ (i 0).val ∧ (i 0).val < h + 1 at h0
    change j.val ≤ (i 1).val ∧ (i 1).val < j.val + 1 at h1
    omega
  · fin_cases a
    · change h ≤ (i 0).val ∧ (i 0).val < h + 1; omega
    · change j.val ≤ (i 1).val ∧ (i 1).val < j.val + 1; omega
    · change 0 ≤ (i 2).val ∧ (i 2).val < 0 + 64; omega
    · change 0 ≤ (i 3).val ∧ (i 3).val < 0 + 256; omega

/-! ## The contents -/

/-- What the devices bring: their rows' columns of x, their columns of the first weights, their rows' columns of the second. -/
structure Inp (F : FTy → Type) where
  x : Dev nD → S512x256.Idx → Elt F .bf16
  win : ℕ → Dev nD → S256x512.Idx → Elt F .bf16
  wout : ℕ → Dev nD → S512x256.Idx → Elt F .bf16

abbrev xM : Memref sig .tc .vmem S512x256 .bf16 := Memref.whole cc0_stg0_0
abbrev wiM : Memref sig .tc .vmem S256x512 .bf16 := Memref.whole cc0_stg1_0
abbrev woM : Memref sig .tc .vmem S512x256 .bf16 := Memref.whole cc0_stg2_0

def xAt (X : S512x256.Idx → Elt F .bf16) : Vec F S512x256 .bf16 :=
  xM.view.readAt (Elt F) (Rect.unit (s := S512x256) ![0, 0] S512x256.size inb_S512x256_S512x256_0_0).toLoadRect X
def wiAt (h : ℕ) (W : S256x512.Idx → Elt F .bf16) : Vec F S256x256 .bf16 := match h with
  | 0 => wiM.view.readAt (Elt F) (Rect.unit (s := S256x512) ![0, 0] S256x256.size inb_S256x512_S256x256_0_0).toLoadRect W
  | _ + 1 => wiM.view.readAt (Elt F) (Rect.unit (s := S256x512) ![0, 256] S256x256.size inb_S256x512_S256x256_0_256).toLoadRect W
def woAt (h : ℕ) (W : S512x256.Idx → Elt F .bf16) : Vec F S256x256 .bf16 := match h with
  | 0 => woM.view.readAt (Elt F) (Rect.unit (s := S512x256) ![0, 0] S256x256.size inb_S512x256_S256x256_0_0).toLoadRect W
  | _ + 1 => woM.view.readAt (Elt F) (Rect.unit (s := S512x256) ![256, 0] S256x256.size inb_S512x256_S256x256_256_0).toLoadRect W

/-- A half of a device's first product, as it is stored. -/
def hval (X : FVec F S512x256 .bf16) (W : S256x512.Idx → Elt F .bf16) (h : ℕ) : FVec F S1x512x256 .bf16 := k0_pay16 X (wiAt h W)
/-- The buffer of a device's first product. -/
def HB (X : FVec F S512x256 .bf16) (W : S256x512.Idx → Elt F .bf16) : S2x512x256.Idx → Elt F .bf16 :=
  fun i => hval X W (i 0).val (ix3 (n0 := 1) (n1 := 512) (n2 := 256) 0 (i 1) (i 2))
/-- The receive buffer of device `c`: from each device its rows of `c`'s chunk. -/
def RB (H : Dev nD → S2x512x256.Idx → Elt F .bf16) (c : Dev nD) : S2x8x64x256.Idx → Elt F .bf16 :=
  fun i => H (i 1) (ix3 (n0 := 2) (n1 := 512) (n2 := 256) (i 0) ⟨64 * (pos c).val + (i 2).val, by have := (pos c).isLt; have : (i 2).val < 64 := (i 2).isLt; omega⟩ (i 3))

def ownAt (h : ℕ) (c : Dev nD) (f : S2x512x256.Idx → Elt F .bf16) : Vec F S1x64x256 .bf16 := match h with
  | 0 => hM.view.readAt (Elt F) (Rect.unit (s := S2x512x256) (k0_off7 c) S1x64x256.size (k0_off7_inb c)).toLoadRect f
  | _ + 1 => hM.view.readAt (Elt F) (Rect.unit (s := S2x512x256) (k0_off11 c) S1x64x256.size (k0_off11_inb c)).toLoadRect f
def slotAt (h : ℕ) (c : Dev nD) (r : Fin 7) (f : S2x8x64x256.Idx → Elt F .bf16) : Vec F S1x1x64x256 .bf16 := match h with
  | 0 => rM.view.readAt (Elt F) (Rect.unit (s := S2x8x64x256) (k0_off9 c (BitVec.ofNat 32 (1 + r.val))) S1x1x64x256.size (k0_off9_inb c r)).toLoadRect f
  | _ + 1 => rM.view.readAt (Elt F) (Rect.unit (s := S2x8x64x256) (k0_off13 c (BitVec.ofNat 32 (1 + r.val))) S1x1x64x256.size (k0_off13_inb c r)).toLoadRect f

/-- The sum of the eight devices' rows of `c`'s chunk of half `h`, its negative entries cut to zero. -/
def myh (H : Dev nD → S2x512x256.Idx → Elt F .bf16) (h : ℕ) (c : Dev nD) : FVec F S1x64x256 .bf16 :=
  k0_pay8 (k0_pay7 (k0_pay6 (k0_pay5 (k0_pay4 (ownAt h c (H c))) (slotAt h c 0 (RB H c)) (slotAt h c 2 (RB H c))) (slotAt h c 3 (RB H c)) (slotAt h c 1 (RB H c)))
    (slotAt h c 4 (RB H c)) (slotAt h c 6 (RB H c))) (slotAt h c 5 (RB H c))
/-- The gathered buffer, the same on every device. -/
def HG (H : Dev nD → S2x512x256.Idx → Elt F .bf16) : S2x512x256.Idx → Elt F .bf16 :=
  fun i => myh H (i 0).val (pos ⟨(i 1).val / 64, by have : (i 1).val < 512 := (i 1).isLt; omega⟩)
    (ix3 (n0 := 1) (n1 := 64) (n2 := 256) 0 ⟨(i 1).val % 64, Nat.mod_lt _ (by decide)⟩ (i 2))
def halfAt (h : ℕ) (f : S2x512x256.Idx → Elt F .bf16) : Vec F S1x512x256 .bf16 := match h with
  | 0 => gM.view.readAt (Elt F) (Rect.unit (s := S2x512x256) ![0, 0, 0] S1x512x256.size inb_S2x512x256_S1x512x256_0_0_0).toLoadRect f
  | _ + 1 => gM.view.readAt (Elt F) (Rect.unit (s := S2x512x256) ![1, 0, 0] S1x512x256.size inb_S2x512x256_S1x512x256_1_0_0).toLoadRect f
def nextX (G : S2x512x256.Idx → Elt F .bf16) (W : S512x256.Idx → Elt F .bf16) : FVec F S512x256 .bf16 :=
  k0_pay14 (k0_pay13 (halfAt 0 G) (woAt 0 W)) (halfAt 1 G) (woAt 1 W)
def lastX (G : S2x512x256.Idx → Elt F .bf16) (W : S512x256.Idx → Elt F .bf16) : FVec F S512x256 .f32 :=
  k0_pay42 (k0_pay41 (halfAt 0 G) (woAt 0 W)) (halfAt 1 G) (woAt 1 W)

/-- Each layer's input on each device. -/
def XV (I : Inp F) : ℕ → Dev nD → FVec F S512x256 .bf16
  | 0 => fun c => k0_pay1 (xAt (I.x c))
  | l + 1 => fun c => nextX (HG fun d => HB (XV I l d) (I.win l d)) (I.wout l c)
def HH (I : Inp F) (l : ℕ) (c : Dev nD) : S2x512x256.Idx → Elt F .bf16 := HB (XV I l c) (I.win l c)
def RR (I : Inp F) (l : ℕ) (c : Dev nD) : S2x8x64x256.Idx → Elt F .bf16 := RB (HH I l) c
def GG (I : Inp F) (l : ℕ) : S2x512x256.Idx → Elt F .bf16 := HG (HH I l)
/-- The result on device `c`. -/
def outV (I : Inp F) (c : Dev nD) : FVec F S512x256 .f32 := lastX (GG I 2) (I.wout 2 c)

theorem XV_succ (I : Inp F) (l : ℕ) (c : Dev nD) : XV I (l + 1) c = nextX (GG I l) (I.wout l c) := rfl

/-! ## The assertions -/

abbrev hPts (c : Dev nD) (S : Finset S2x512x256.Idx) (f : S2x512x256.Idx → Elt F .bf16) : sProp 𝕄 :=
  ((c : Thread nD τ).loc cc0_scratch0) ↦[S]{fullShare} f
abbrev rPts (c : Dev nD) (S : Finset S2x8x64x256.Idx) (f : S2x8x64x256.Idx → Elt F .bf16) : sProp 𝕄 :=
  ((c : Thread nD τ).loc cc0_scratch1) ↦[S]{fullShare} f
abbrev gPts (c : Dev nD) (S : Finset S2x512x256.Idx) (q : PosShare TreeShare) (f : S2x512x256.Idx → Elt F .bf16) : sProp 𝕄 :=
  ((c : Thread nD τ).loc cc0_scratch2) ↦[S]{q} f

/-! ## The cells -/

abbrev barS : Sem sig := (SemArray.scalar (sig.barrier 0 rfl) : Sems sig S_).sem
abbrev barCell (c : Dev nD) : GSem nD τ sig := ((c : Thread nD τ), .reg barS)
set_option backward.proofsInPublic true in
/-- Semaphore `j` of layer-and-half `lh` of the array of kind `k`: 0 the reduction's sends, 1 its receives, 2 the gather's sends, 3 its receives. -/
def dsem (k : Fin 4) (lh : Fin 6) (j : Fin 8) : DmaSem sig := ⟨8 + 48 * k.val + 8 * lh.val + j.val, by have := k.isLt; have := lh.isLt; have := j.isLt; show _ < 200; omega⟩
abbrev dcell (c : Dev nD) (k : Fin 4) (lh : Fin 6) (j : Fin 8) : GSem nD τ sig := ((c : Thread nD τ), .dma (dsem k lh j))

def N : ℕ := ((hM.slice (Rect.unit (s := S2x512x256) ![0, 0, 0] S1x64x256.size (by decide)) (fun _ => rfl)).squeeze S64x256 squeezes_S1x64x256_S64x256).view.dmaCredit
theorem N_pos : 0 < N := View.dmaCredit_pos _ (by decide)

/-- The kind, layer-and-half and index of a DMA semaphore. -/
def dk (s : DmaSem sig) : ℕ := (s.val - 8) / 48
set_option backward.proofsInPublic true in
def dlh (s : DmaSem sig) : Fin 6 := ⟨(s.val - 8) % 48 / 8, by omega⟩
set_option backward.proofsInPublic true in
def dj (s : DmaSem sig) : Fin 8 := ⟨(s.val - 8) % 8, by omega⟩
theorem dk_dsem (k lh j) : dk (dsem k lh j) = k.val := by unfold dk dsem; have := k.isLt; have := lh.isLt; have := j.isLt; simp only; omega
theorem dlh_dsem (k lh j) : dlh (dsem k lh j) = lh := by unfold dlh dsem; have := k.isLt; have := lh.isLt; have := j.isLt; apply Fin.ext; simp only; omega
theorem dj_dsem (k lh j) : dj (dsem k lh j) = j := by unfold dj dsem; have := k.isLt; have := lh.isLt; have := j.isLt; apply Fin.ext; simp only; omega

/-! ## The payloads -/

variable (I : Inp F)

/-- Device `j` ready: its two slots for device `p`. -/
def barPay (p j : Dev nD) : sProp 𝕄 := iprop((∃ f, rPts j (slotSet 0 p) f) ∗ (∃ f, rPts j (slotSet 1 p) f))
/-- Kind 0: the sent rows back. Kind 1: the rows of `j` arrived in `p`'s slot, with `j`'s room for `p`'s chunk. Kind 2: the sent chunk's share back. Kind 3: `j`'s chunk arrived, with (before the last
    layer) `j`'s slot for `p`. -/
def dpay (k : ℕ) (lh : Fin 6) (p j : Dev nD) : sProp 𝕄 := match k with
  | 0 => hPts p (chunkSet (lh.val % 2) (pos j)) (HH I (lh.val / 2) p)
  | 1 => iprop(rPts p (slotSet (lh.val % 2) j) (RR I (lh.val / 2) p) ∗ (∃ f, gPts j (chunkSet (lh.val % 2) (pos p)) fullShare f))
  | 2 => gPts p (chunkSet (lh.val % 2) (pos p)) (ShareLeaves.leaf 3 fullShare.left (mk p j)) (GG I (lh.val / 2))
  | _ => iprop(gPts p (chunkSet (lh.val % 2) (pos j)) fullShare (GG I (lh.val / 2)) ∗ (if lh.val < 4 then iprop(∃ f, rPts j (slotSet (lh.val % 2) p) f) else iprop(emp)))

/-- One round: a barrier cell has a duty of one unit from every other device; a DMA cell of the exchange the one duty of its index. -/
def rd : Rounds.Schedule (GSem nD τ sig) D 𝕄 where
  duties g r := if r = 0 ∧ g.1.2 = .tc then (match g.2 with
    | .reg _ => Finset.univ.erase g.1.1
    | .dma s => if s.val < 8 ∨ dj s = g.1.1 then ∅ else {dj s}) else ∅
  unitless _ := False
  amount g _ _ := match g.2 with
    | .reg _ => 1
    | .dma _ => N
  payload g _ d := match g.2 with
    | .reg _ => barPay g.1.1 d
    | .dma s => dpay I (dk s) (dlh s) g.1.1 d
  amount_pos g _ _ _ := by
    obtain ⟨t, s⟩ := g
    cases s
    · exact Nat.one_pos
    · exact N_pos

instance barPay_storable (p j : Dev nD) : BI.Storable (upEmb : UEmb _ 𝕄) (barPay (F := F) p j) := by unfold barPay; infer_instance
instance dpay_storable (k : ℕ) (lh : Fin 6) (p j : Dev nD) : BI.Storable (upEmb : UEmb _ 𝕄) (dpay I k lh p j) := by
  unfold dpay
  split
  · infer_instance
  · infer_instance
  · infer_instance
  · split <;> infer_instance
instance rd_payload_storable (g : GSem nD τ sig) (r : ℕ) (d : D) : BI.Storable (upEmb : UEmb _ 𝕄) ((rd I).payload g r d) := by
  obtain ⟨t, s⟩ := g
  cases s
  · show BI.Storable upEmb (barPay (F := F) t.1 d); infer_instance
  · show BI.Storable upEmb (dpay I _ _ t.1 d); infer_instance

theorem duties_bar (c : Dev nD) : (rd I).duties (barCell c) 0 = Finset.univ.erase c := by dsimp only [rd]; exact if_pos ⟨rfl, rfl⟩
theorem duties_dma (c : Dev nD) (k lh j) (h : j ≠ c) : (rd I).duties (dcell c k lh j) 0 = {j} := by
  dsimp only [rd]
  rw [if_pos ⟨rfl, rfl⟩, dj_dsem]
  refine if_neg fun hh => ?_
  rcases hh with hh | hh
  · unfold dsem at hh; simp only at hh; omega
  · exact h hh
theorem duties_self (c : Dev nD) (k lh) : (rd I).duties (dcell c k lh c) 0 = ∅ := by
  dsimp only [rd]
  rw [if_pos ⟨rfl, rfl⟩, dj_dsem]
  exact if_pos (.inr rfl)
theorem duties_later (g : GSem nD τ sig) : ∀ r, 1 ≤ r → (rd I).duties g r = ∅ := fun r hr => by dsimp only [rd]; rw [if_neg fun h => by omega]
theorem amount_bar (c d) : (rd I).amount (barCell c) 0 d = 1 := rfl
theorem amount_dma (c k lh j d) : (rd I).amount (dcell c k lh j) 0 d = N := rfl
theorem payload_bar (c d) : (rd I).payload (barCell c) 0 d = barPay c d := rfl
theorem payload_dma (c k lh j d) : (rd I).payload (dcell c k lh j) 0 d = dpay I k.val lh c d := by dsimp only [rd]; rw [dk_dsem, dlh_dsem]
theorem expect_bar (c : Dev nD) : (rd I).expect (barCell c) 0 = 7 := by
  unfold Schedule.expect Schedule.amountOf
  rw [duties_bar, Finset.sum_congr rfl fun d _ => amount_bar I c d, Finset.sum_const, Finset.card_erase_of_mem (Finset.mem_univ _), Finset.card_univ]
  rfl
theorem expect_dma (c : Dev nD) (k lh j) (h : j ≠ c) : (rd I).expect (dcell c k lh j) 0 = N := by
  unfold Schedule.expect Schedule.amountOf; rw [duties_dma I c k lh j h, Finset.sum_singleton, amount_dma]
theorem rest_bar (c : Dev nD) : bigSep ((rd I).duties (barCell c) 0 \ ∅) (fun d => (rd I).payload (barCell c) 0 d) = bigSep (Finset.univ.erase c) (fun d => barPay c d) := by
  rw [Finset.sdiff_empty, duties_bar]; rfl
theorem rest_dma (c : Dev nD) (k lh j) (h : j ≠ c) : bigSep ((rd I).duties (dcell c k lh j) 0 \ ∅) (fun d => (rd I).payload (dcell c k lh j) 0 d) = dpay I k.val lh c j := by
  rw [Finset.sdiff_empty, duties_dma I c k lh j h, bigSep_singleton, payload_dma]

/-! ## Levels and dues -/

def L (g : GSem nD τ sig) : Finset Unit := if g.1.2 = .tc then {()} else ∅
/-- A barrier cell is at 1, the reduction's receives of layer l and half h at 2 + 4 l + h, the gather's at 4 + 4 l + h, every other cell at 0. -/
def lvK (k lh : ℕ) : ℕ := if k = 1 then 2 + 4 * (lh / 2) + lh % 2 else if k = 3 then 4 + 4 * (lh / 2) + lh % 2 else 0
def lv (g : GSem nD τ sig) (_ : Unit) : ℕ := match g.2 with
  | .reg _ => 1
  | .dma s => if s.val < 8 then 0 else lvK (dk s) (dlh s).val

theorem L_tc (c : Dev nD) (sm : SemLoc sig) : L ((c : Thread nD τ), sm) = {()} := if_pos rfl
theorem lv_dcell (c k lh j) : lv (dcell c k lh j) () = lvK k.val lh.val := by
  dsimp only [lv]
  rw [dk_dsem, dlh_dsem]
  exact if_neg (by unfold dsem; simp only; omega)

/-- What a device pays: a signal of its barrier, a copy of the reduction, a copy of the gather; each to the peer at a mask. -/
inductive Code : Type
  | bar (m : Fin 8)
  | rs (lh : Fin 6) (m : Fin 8)
  | ag (lh : Fin 6) (m : Fin 8)
def Code.cell (c : Dev nD) : Code → GSem nD τ sig
  | .bar m => barCell (px c m)
  | .rs lh m => dcell (px c m) 1 lh c
  | .ag lh m => dcell (px c m) 3 lh c
def Code.amt : Code → ℕ
  | .bar _ => 1
  | .rs _ _ => N
  | .ag _ _ => N
def Code.lev : Code → ℕ
  | .bar _ => 1
  | .rs lh _ => lvK 1 lh.val
  | .ag lh _ => lvK 3 lh.val
theorem lv_code (c : Dev nD) (x : Code) : lv (x.cell c) () = x.lev := by
  cases x
  · rfl
  · exact lv_dcell _ _ _ _
  · exact lv_dcell _ _ _ _
theorem L_code (c : Dev nD) (x : Code) : L (x.cell c) = {()} := by cases x <;> exact L_tc _ _

/-- The dues that are left. -/
def owed (c : Dev nD) : List Code → CellTallies nD τ sig Unit
  | [] => 0
  | x :: l => owed c l + tallyAt (x.cell c) () x.amt

theorem owed_pos {c : Dev nD} {l : List Code} {g : GSem nD τ sig} {u : Unit} (h : 0 < owed c l g u) : ∃ x ∈ l, g = x.cell c := by
  induction l with
  | nil => exact absurd h (Nat.lt_irrefl 0)
  | cons x l ih =>
    rw [owed, Pi.add_apply, Finsupp.add_apply] at h
    rcases Nat.add_pos_iff_pos_or_pos.mp h with h | h
    · obtain ⟨y, hy, e⟩ := ih h
      exact ⟨y, List.mem_cons_of_mem _ hy, e⟩
    · exact ⟨x, List.mem_cons_self, (Pipeline.tallyAt_pos h).1⟩

omit [FloatOps F] in
theorem mayWait (c : Dev nD) (sm : SemLoc sig) (l : List Code) (h : ∀ x ∈ l, lv ((c : Thread nD τ), sm) () < x.lev) :
    (levAts L lv : sProp 𝕄) ⊢ MayWait (c : Thread nD τ) sm () (owed c l) :=
  MayOwe.of_cut (L := L) (lev := lv) (lv ((c : Thread nD τ), sm) ()) (fun p hp => by rw [Finset.mem_singleton.mp hp, L_tc]; exact Finset.mem_singleton_self _)
    (fun g u hg => by obtain ⟨x, -, rfl⟩ := owed_pos hg; rw [L_code]; exact Finset.mem_singleton_self _)
    (fun p hp => by rw [Finset.mem_singleton.mp hp])
    (fun g u hg => by obtain ⟨x, hx, rfl⟩ := owed_pos hg; rw [show u = () from rfl, lv_code]; exact h x hx)

end Cert.KProof
-- ==== Proof.Steps.lean ====
/-
  One rule per kind of operation of the body, each stated on a state of fixed shape: what is shared, the inputs, the dues that are left, what the running stage has still to do, what it has done, the rest.
-/
module

public import proofs.«01_k».proof.Proof.Common
public import Idealize.ShloMosaic.Lib.Pipeline.BigSepL

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)

variable {F : FTy → Type} [FloatOps F]

local notation "𝕄" => MT nD τ sig Unit (Elt F) ℕ UU ℕ

/-! ## Offsets, devices and semaphores as the program computes them -/

/-- A chunk's mask for a peer's. -/
def lw (m : Fin 8) : BitVec 32 := match m with | 0 => 0#32 | 1 => 1#32 | 2 => 3#32 | 3 => 2#32 | 4 => 4#32 | 5 => 5#32 | 6 => 7#32 | 7 => 6#32
def mw (m : Fin 8) : BitVec 32 := match m with | 0 => 0#32 | 1 => 1#32 | 2 => 2#32 | 3 => 3#32 | 4 => 4#32 | 5 => 5#32 | 6 => 6#32 | 7 => 7#32
def bw (lh : Fin 6) : BitVec 32 := match lh with | 0 => 0#32 | 1 => 8#32 | 2 => 16#32 | 3 => 24#32 | 4 => 32#32 | 5 => 40#32

def pxN (c : Dev nD) (m : Fin 8) : ℕ :=
  (Scalar.addi 0#32 (Scalar.muli (Scalar.xori (Scalar.remsi (Scalar.divsi (Dev.word c) 1#32) 8#32) (mw m)) 1#32)).toNat
theorem pxN_eq (c : Dev nD) (m : Fin 8) : pxN c m = (px c m).val := by revert c m; decide +kernel

theorem off1_eq (c : Dev nD) (lh : Fin 6) (m : Fin 8) : k0_off1 c (bw lh) (mw m) 0 = 8 * lh.val + (px c m).val := by revert c lh m; decide +kernel
theorem off2_eq (c : Dev nD) (lh : Fin 6) : k0_off2 c (bw lh) 0 = 8 * lh.val + c.val := by revert c lh; decide +kernel
theorem off3_eq (c : Dev nD) : k0_off3 c = ![0, c.val, 0, 0] := by revert c; decide +kernel
theorem off5_eq (c : Dev nD) : k0_off5 c = ![1, c.val, 0, 0] := by revert c; decide +kernel
theorem off4_eq (c : Dev nD) (m : Fin 8) : k0_off4 c (lw m) = ![0, 64 * (pos (px c m)).val, 0] := by revert c m; decide +kernel
theorem off6_eq (c : Dev nD) (m : Fin 8) : k0_off6 c (lw m) = ![1, 64 * (pos (px c m)).val, 0] := by revert c m; decide +kernel
theorem off7_eq (c : Dev nD) : k0_off7 c = ![0, 64 * (pos c).val, 0] := by revert c; decide +kernel
theorem off11_eq (c : Dev nD) : k0_off11 c = ![1, 64 * (pos c).val, 0] := by revert c; decide +kernel
theorem off9_eq (c : Dev nD) (m : Fin 8) : k0_off9 c (mw m) = ![0, (px c m).val, 0, 0] := by revert c m; decide +kernel
theorem off13_eq (c : Dev nD) (m : Fin 8) : k0_off13 c (mw m) = ![1, (px c m).val, 0, 0] := by revert c m; decide +kernel
theorem off10_eq (c : Dev nD) : k0_off10 c = ![0, 64 * (pos c).val, 0] := by revert c; decide +kernel
theorem off14_eq (c : Dev nD) : k0_off14 c = ![1, 64 * (pos c).val, 0] := by revert c; decide +kernel

/-- The semaphore an offset names in one of the four arrays. -/
theorem sem_eq {b : ℕ} {hb : b + S48.numel ≤ 200} {off : Fin 1 → ℕ} {inb : ∀ a, off a + S1.size a ≤ S48.size a} {sq} {s : DmaSem sig}
    (h : b + off 0 = s.val) :
    (((SemArray.consecutive b S48 hb : DmaSems sig S48).slice (Rect.unit (s := S48) off S1.size inb)).squeeze S_ sq).sem = s := by
  apply Fin.ext
  rw [← h]
  show b + (S48.rowMajor _).val = b + off 0
  congr 1
  rw [Shape.rowMajor_val_one]
  show off 0 + 1 * _ = off 0
  have : ((Shape.reshapeEquiv (Shape.Squeezes.numel_eq sq) (fun i => i.elim0)) 0 : Fin 1).val = 0 := by
    exact Nat.lt_one_iff.mp (Fin.isLt _)
  erw [this]
  omega

theorem sem_peer (k : Fin 4) {b : ℕ} {hb : b + S48.numel ≤ 200} (h : b = 8 + 48 * k.val) (c : Dev nD) (lh : Fin 6) (m : Fin 8) {inb sq} :
    (((SemArray.consecutive b S48 hb : DmaSems sig S48).slice (Rect.unit (s := S48) (k0_off1 c (bw lh) (mw m)) S1.size inb)).squeeze S_ sq).sem = dsem k lh (px c m) :=
  sem_eq (by rw [off1_eq, h]; show _ = 8 + 48 * k.val + 8 * lh.val + (px c m).val; omega)
theorem sem_own (k : Fin 4) {b : ℕ} {hb : b + S48.numel ≤ 200} (h : b = 8 + 48 * k.val) (c : Dev nD) (lh : Fin 6) {inb sq} :
    (((SemArray.consecutive b S48 hb : DmaSems sig S48).slice (Rect.unit (s := S48) (k0_off2 c (bw lh)) S1.size inb)).squeeze S_ sq).sem = dsem k lh c :=
  sem_eq (by rw [off2_eq, h]; show _ = 8 + 48 * k.val + 8 * lh.val + c.val; omega)

/-! ## The views of the copies -/

theorem unit3_emb {off : Fin 3 → ℕ} {inb : ∀ a, off a + S1x64x256.size a ≤ S2x512x256.size a} {h : ℕ} {q : Fin 8} (e : off = ![h, 64 * q.val, 0]) (hh : h < 2)
    (hn : S64x256.numel = S1x64x256.numel) (j : S64x256.Idx) :
    (Rect.unit (s := S2x512x256) off S1x64x256.size inb).emb (Shape.reshapeEquiv hn j)
      = ix3 (n0 := 2) (n1 := 512) (n2 := 256) ⟨h, hh⟩ ⟨64 * q.val + (j 0).val, by have := q.isLt; have : (j 0).val < 64 := (j 0).isLt; omega⟩ (j 1) := by
  subst e
  have hj : Shape.reshapeEquiv hn j = ix3 (⟨0, Nat.one_pos⟩ : Fin 1) (j 0) (j 1) := by
    conv_lhs => rw [ValueIdx.eq_ix2 j]
    exact ValueIdx.reshapeEquiv_ix2_1ab hn (j 0) (j 1)
  rw [hj]
  funext a
  apply Fin.ext
  fin_cases a
  · show h + 1 * 0 = h; omega
  · show 64 * q.val + 1 * (j 0).val = 64 * q.val + (j 0).val; omega
  · show 0 + 1 * (j 1).val = (j 1).val; omega
theorem unit4_emb {off : Fin 4 → ℕ} {inb : ∀ a, off a + S1x1x64x256.size a ≤ S2x8x64x256.size a} {h : ℕ} {q : Fin 8} (e : off = ![h, q.val, 0, 0]) (hh : h < 2)
    (hn : S64x256.numel = S1x1x64x256.numel) (j : S64x256.Idx) :
    (Rect.unit (s := S2x8x64x256) off S1x1x64x256.size inb).emb (Shape.reshapeEquiv hn j)
      = ix4 (n0 := 2) (n1 := 8) (n2 := 64) (n3 := 256) ⟨h, hh⟩ q (j 0) (j 1) := by
  subst e
  have hj : Shape.reshapeEquiv hn j = ix4 (⟨0, Nat.one_pos⟩ : Fin 1) (⟨0, Nat.one_pos⟩ : Fin 1) (j 0) (j 1) := by
    conv_lhs => rw [ValueIdx.eq_ix2 j]
    exact ValueIdx.reshapeEquiv_ix2_11ab hn (j 0) (j 1)
  rw [hj]
  funext a
  apply Fin.ext
  fin_cases a
  · show h + 1 * 0 = h; omega
  · show q.val + 1 * 0 = q.val; omega
  · show 0 + 1 * (j 0).val = (j 0).val; omega
  · show 0 + 1 * (j 1).val = (j 1).val; omega

/-- A chunk of a two-half buffer, as the copies name it. -/
abbrev chM (M : Memref sig .tc .vmem S2x512x256 .bf16) (off : Fin 3 → ℕ) (inb : ∀ a, off a + S1x64x256.size a ≤ S2x512x256.size a)
    {hs : ∀ a, (Rect.unit (s := S2x512x256) off S1x64x256.size inb).stride a = 1} (sq : S1x64x256.Squeezes S64x256) :
    Memref sig .tc .vmem S64x256 .bf16 :=
  (M.slice (Rect.unit (s := S2x512x256) off S1x64x256.size inb) hs).squeeze S64x256 sq
/-- A slot of the receive buffer. -/
abbrev slM (off : Fin 4 → ℕ) (inb : ∀ a, off a + S1x1x64x256.size a ≤ S2x8x64x256.size a)
    {hs : ∀ a, (Rect.unit (s := S2x8x64x256) off S1x1x64x256.size inb).stride a = 1} (sq : S1x1x64x256.Squeezes S64x256) :
    Memref sig .tc .vmem S64x256 .bf16 :=
  (rM.slice (Rect.unit (s := S2x8x64x256) off S1x1x64x256.size inb) hs).squeeze S64x256 sq

theorem hM_set {off inb hs sq} {h : ℕ} {q : Fin 8} (e : off = ![h, 64 * q.val, 0]) : (chM hM off inb (hs := hs) sq).view.set = chunkSet h q := by
  refine (View.set_reshape _ _).trans ?_
  refine (View.set_slice_whole cc0_scratch0 _).trans ?_
  exact unit3_set e
theorem gM_set {off inb hs sq} {h : ℕ} {q : Fin 8} (e : off = ![h, 64 * q.val, 0]) : (chM gM off inb (hs := hs) sq).view.set = chunkSet h q := by
  refine (View.set_reshape _ _).trans ?_
  refine (View.set_slice_whole cc0_scratch2 _).trans ?_
  exact unit3_set e
theorem rM_set {off inb hs sq} {h : ℕ} {q : Fin 8} (e : off = ![h, q.val, 0, 0]) : (slM off inb (hs := hs) sq).view.set = slotSet h q := by
  refine (View.set_reshape _ _).trans ?_
  refine (View.set_slice_whole cc0_scratch1 _).trans ?_
  exact unit4_set e

theorem hM_read {off inb hs sq} {h : ℕ} {q : Fin 8} (e : off = ![h, 64 * q.val, 0]) (hh : h < 2) (f : S2x512x256.Idx → Elt F .bf16) (j : S64x256.Idx) :
    (chM hM off inb (hs := hs) sq).view.read (Elt F) f j
      = f (ix3 (n0 := 2) (n1 := 512) (n2 := 256) ⟨h, hh⟩ ⟨64 * q.val + (j 0).val, by have := q.isLt; have : (j 0).val < 64 := (j 0).isLt; omega⟩ (j 1)) :=
  congrArg f (unit3_emb e hh _ j)
theorem gM_read {off inb hs sq} {h : ℕ} {q : Fin 8} (e : off = ![h, 64 * q.val, 0]) (hh : h < 2) (f : S2x512x256.Idx → Elt F .bf16) (j : S64x256.Idx) :
    (chM gM off inb (hs := hs) sq).view.read (Elt F) f j
      = f (ix3 (n0 := 2) (n1 := 512) (n2 := 256) ⟨h, hh⟩ ⟨64 * q.val + (j 0).val, by have := q.isLt; have : (j 0).val < 64 := (j 0).isLt; omega⟩ (j 1)) :=
  congrArg f (unit3_emb e hh _ j)

/-- The rows of device `c` land in its slot at device `p`. -/
theorem rs_lands (H : Dev nD → S2x512x256.Idx → Elt F .bf16) {c p : Dev nD} {offs inbs hs sq offd inbd hd sqd} {h : ℕ} (hh : h < 2)
    (es : offs = ![h, 64 * (pos p).val, 0]) (ed : offd = ![h, c.val, 0, 0]) (fd : S2x8x64x256.Idx → Elt F .bf16) :
    ∀ i ∈ slotSet h c, (slM offd inbd (hs := hd) sqd).view.write (Elt F) fd ((chM hM offs inbs (hs := hs) sq).view.read (Elt F) (H c)) Finset.univ i = RB H p i := by
  intro i hi
  rw [← rM_set (inb := inbd) (hs := hd) (sq := sqd) ed] at hi
  obtain ⟨j, -, rfl⟩ := Finset.mem_map.mp hi
  refine (View.write_emb_of_mem _ _ (Finset.mem_univ j)).trans ?_
  refine (hM_read es hh (H c) j).trans ?_
  have he : (slM offd inbd (hs := hd) sqd).view.emb j = ix4 (n0 := 2) (n1 := 8) (n2 := 64) (n3 := 256) ⟨h, hh⟩ c (j 0) (j 1) := unit4_emb ed hh _ j
  rw [he]
  rfl
/-- Device `c`'s chunk lands in its place at every device. -/
theorem ag_lands (f fd : S2x512x256.Idx → Elt F .bf16) {q : Fin 8} {offs inbs hs sq offd inbd hd sqd} {h : ℕ} (hh : h < 2)
    (es : offs = ![h, 64 * q.val, 0]) (ed : offd = ![h, 64 * q.val, 0]) :
    ∀ i ∈ chunkSet h q, (chM gM offd inbd (hs := hd) sqd).view.write (Elt F) fd ((chM gM offs inbs (hs := hs) sq).view.read (Elt F) f) Finset.univ i = f i := by
  intro i hi
  rw [← gM_set (inb := inbd) (hs := hd) (sq := sqd) ed] at hi
  obtain ⟨j, -, rfl⟩ := Finset.mem_map.mp hi
  refine (View.write_emb_of_mem _ _ (Finset.mem_univ j)).trans ?_
  refine (gM_read es hh f j).trans ?_
  have he : (chM gM offd inbd (hs := hd) sqd).view.emb j = _ := unit3_emb ed hh _ j
  rw [he]

/-! ## The state -/

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

set_option backward.proofsInPublic true in
/-- The cells of the exchange, numbered: the barrier's, then the four arrays'. -/
def csem (i : Fin 193) : SemLoc sig := if h : i.val = 0 then .reg barS else .dma ⟨7 + i.val, by have := i.isLt; show _ < 200; omega⟩
abbrev kcell (ck : Dev nD × Fin 193) : GSem nD τ sig := ((ck.1 : Thread nD τ), csem ck.2)
set_option backward.proofsInPublic true in
def ci (k : Fin 4) (lh : Fin 6) (j : Fin 8) : Fin 193 := ⟨1 + 48 * k.val + 8 * lh.val + j.val, by have := k.isLt; have := lh.isLt; have := j.isLt; omega⟩
theorem csem_zero : csem 0 = .reg barS := rfl
theorem csem_ci (k lh j) : csem (ci k lh j) = .dma (dsem k lh j) := by
  unfold csem ci dsem
  rw [dif_neg (by simp only; omega)]
  congr 1
  apply Fin.ext
  simp only
  omega

variable (I : Inp F) (K : Dev nD × Fin 193 → ℕ)

/-- What every device knows: the levels, every cell's invariant, every cell at round 0. -/
def recs : sProp 𝕄 := iprop(levAts L lv ∗ bigSep Finset.univ fun ck => iprop(cellInv ER (rd I) (K ck) (kcell ck) ∗ reached ER (kcell ck) 0))
instance recs_persistent : BI.Persistent (recs I K) := by unfold recs; infer_instance

theorem recs_lev : recs I K ⊢ levAts L lv := by unfold recs; iintro ⟨H, -⟩; iexact H
theorem recs_at (ck : Dev nD × Fin 193) : recs I K ⊢ iprop(cellInv ER (rd I) (K ck) (kcell ck) ∗ reached ER (kcell ck) 0) := by
  unfold recs
  iintro ⟨-, H⟩
  iapply (show bigSep Finset.univ (fun ck => iprop(cellInv ER (rd I) (K ck) (kcell ck) ∗ reached ER (kcell ck) 0)) ⊢ iprop(cellInv ER (rd I) (K ck) (kcell ck) ∗ reached ER (kcell ck) 0) from bigSep_elim (Finset.mem_univ ck)) $$ H
theorem recs_dma (c : Dev nD) (k lh j) : recs I K ⊢ iprop(cellInv ER (rd I) (K (c, ci k lh j)) (dcell c k lh j) ∗ reached ER (dcell c k lh j) 0) := by
  have h := recs_at I K (c, ci k lh j)
  unfold kcell at h
  rw [csem_ci] at h
  exact h
theorem recs_bar (c : Dev nD) : recs I K ⊢ iprop(cellInv ER (rd I) (K (c, 0)) (barCell c) ∗ reached ER (barCell c) 0) := recs_at I K (c, 0)

/-- The inputs, held throughout. -/
def inp (c : Dev nD) : sProp 𝕄 :=
  iprop((((c : Thread nD τ).loc cc0_stg0_0) ↦[Finset.univ]{fullShare} I.x c)
    ∗ (((c : Thread nD τ).loc cc0_stg1_0) ↦[Finset.univ]{fullShare} I.win 0 c)
    ∗ (((c : Thread nD τ).loc cc0_stg2_0) ↦[Finset.univ]{fullShare} I.wout 0 c)
    ∗ (((c : Thread nD τ).loc cc0_stg3_0) ↦[Finset.univ]{fullShare} I.win 1 c)
    ∗ (((c : Thread nD τ).loc cc0_stg4_0) ↦[Finset.univ]{fullShare} I.wout 1 c)
    ∗ (((c : Thread nD τ).loc cc0_stg5_0) ↦[Finset.univ]{fullShare} I.win 2 c)
    ∗ (((c : Thread nD τ).loc cc0_stg6_0) ↦[Finset.univ]{fullShare} I.wout 2 c))

def ow (c : Dev nD) (ws : List Code) : sProp 𝕄 := iprop(∃ W, owes (c : Thread nD τ) (owed c ws) W)

def ST (c : Dev nD) (ws : List Code) (A B R : sProp 𝕄) : sProp 𝕄 := iprop(recs I K ∗ inp I c ∗ ow c ws ∗ A ∗ B ∗ R)

/-! ## The steps -/

section Steps
variable {c : Dev nD} {α : Type} {ws : List Code} {l l' : List (Fin 8)}

theorem step_part {Q : α → sProp 𝕄} {β : Type} {p p' : Prog (TpuEff nD τ sig (Elt F) Λ₀ .tc) β} {k : β → Prog (TpuEff nD τ sig (Elt F) Λ₀ .tc) α} {P : sProp 𝕄}
    (e : p = p') (h : P ⊢ WP c p' (fun v => WP c (k v) Q)) : P ⊢ WP c (p >>= k) Q := by
  subst e; unfold WP; rw [wp_bind]; exact h
theorem step_ret {Q : α → sProp 𝕄} {v v' : α} {P : sProp 𝕄} (e : v = v') (h : P ⊢ Q v') : P ⊢ WP c (pure v) Q := by
  subst e; unfold WP; rw [wp_pure]; exact h.trans fupd_intro

theorem step_dev {Q : α → sProp 𝕄} {k : Dev nD → Prog (TpuEff nD τ sig (Elt F) Λ₀ .tc) α} {P : sProp 𝕄} (h : P ⊢ WP c (k c) Q) :
    P ⊢ WP c (Prog.lift .deviceId >>= k) Q := by
  refine h.trans (Entails.of_eq ?_)
  exact (wp_deviceId 𝒱₀ (c : Thread nD τ) none Set.univ (k := fun d => k d)).symm

/-- One copy of the reduction still to start: the rows, the peer's slot, the room its own chunk will need, the two duties. -/
def rsTodo (c : Dev nD) (lh : Fin 6) (m : Fin 8) : sProp 𝕄 :=
  iprop(hPts c (chunkSet (lh.val % 2) (pos (px c m))) (HH I (lh.val / 2) c) ∗ (∃ f, rPts (px c m) (slotSet (lh.val % 2) c) f)
    ∗ (∃ f, gPts c (chunkSet (lh.val % 2) (pos (px c m))) fullShare f)
    ∗ dutyTok ER (dcell c 0 lh (px c m)) 0 (px c m) ∗ dutyTok ER (dcell (px c m) 1 lh c) 0 c)
/-- A copy's own credit, of kind `k`. -/
def crd (c : Dev nD) (k : Fin 4) (lh : Fin 6) (m : Fin 8) : sProp 𝕄 := cred (tallyAt (dcell c k lh (px c m)) () N)

theorem step_rs {Q : α → sProp 𝕄} {R : sProp 𝕄} (lh : Fin 6) {m : Fin 8} (hm : px c m ≠ c) {n : Dev nD} (hn : n = px c m) {offs inbs hs sq offd inbd hd sqd} {sS sR : DmaSem sig}
    (es : offs = ![lh.val % 2, 64 * (pos (px c m)).val, 0]) (ed : offd = ![lh.val % 2, c.val, 0, 0])
    (eS : sS = dsem 0 lh (px c m)) (eR : sR = dsem 1 lh c)
    {hsc : (slM offd inbd (hs := hd) sqd : Memref sig (Dev.tc n : Thread nD τ).2.kind .vmem S64x256 .bf16).view.ref.isScScratch = false}
    {hsrc hdst hsem} {k : PUnit → Prog (TpuEff nD τ sig (Elt F) Λ₀ .tc) α}
    (h : ST I K c ws (bigSepL l (rsTodo I c lh)) (bigSepL (m :: l') (crd c 0 lh)) R ⊢ WP c (k ⟨⟩) Q) :
    ST I K c (.rs lh m :: ws) (bigSepL (m :: l) (rsTodo I c lh)) (bigSepL l' (crd c 0 lh)) R
      ⊢ WP c (Prog.lift (.enqueueDma (chM hM offs inbs (hs := hs) sq) (.remote (Dev.tc n : Thread nD τ) (slM offd inbd (hs := hd) sqd) (.dma sS) hsc) (.dma sR) hsrc hdst hsem) >>= k) Q := by
  subst hn eS eR
  have hh : lh.val % 2 < 2 := Nat.mod_lt _ (by decide)
  show _ ⊢ WP c (.op _ k) Q
  rw [bigSepL_cons']
  unfold ST ow
  iintro ⟨#HK, Hin, ⟨%W, Ho⟩, ⟨HT, HA⟩, HB, HR⟩
  unfold rsTodo
  icases HT with ⟨Hs, ⟨%fd, Hd⟩, Hg, Ht0, Ht1⟩
  ihave #Hi0 := (recs_dma I K c 0 lh (px c m)) $$ HK
  ihave #Hi1 := (recs_dma I K (px c m) 1 lh c) $$ HK
  icases Hi0 with ⟨#HI0, #Hr0⟩
  icases Hi1 with ⟨#HI1, #Hr1⟩
  iapply (Rounds.wp_send_pointsTo_with 𝒱₀ ER (rd I) (c : Thread nD τ) none (c' := ((px c m : Dev nD) : Thread nD τ)) (κ₁ := K (c, ci 0 lh (px c m))) (κ₂ := K (px c m, ci 1 lh c))
      (src := chM hM offs inbs (hs := hs) sq) (dst := slM offd inbd (hs := hd) sqd) (q := fullShare) (fs := HH I (lh.val / 2) c) (fd := fd)
      (F := iprop(∃ f, gPts c (chunkSet (lh.val % 2) (pos (px c m))) fullShare f))
      (r₁ := 0) (r₂ := 0) (d₁ := px c m) (d₂ := c)
      (by rw [duties_dma I c 0 lh (px c m) hm]; exact Finset.mem_singleton_self _)
      (by rw [duties_dma I (px c m) 1 lh c (Ne.symm hm)]; exact Finset.mem_singleton_self _)
      () () N rfl (amount_dma I _ _ _ _ _) (amount_dma I _ _ _ _ _) (owed c ws) rfl (W := W)
      (by rw [payload_dma, hM_set es]; exact BI.Entails.refl _)
      (by
        rw [payload_dma, rM_set ed]
        refine sep_mono (Entails.of_eq ?_) (BI.Entails.refl _)
        exact pointsTo_congr (rs_lands (HH I (lh.val / 2)) (p := px c m) hh es ed fd))) $$ [Hs Hd Hg Ht0 Ht1 Ho]
  · isplitr; · iexact HI0
    isplitr; · iexact HI1
    isplitl [Hs]; · rw [hM_set es]; iexact Hs
    isplitl [Hd Hg]
    · isplitl [Hd]; · rw [rM_set ed]; iexact Hd
      iexact Hg
    isplitl [Ho]; · iexact Ho
    isplitl [Ht0]; · iexact Ht0
    isplitr; · iexact Hr0
    isplitl [Ht1]; · iexact Ht1
    iexact Hr1
  iintro ⟨Hc, Ho⟩
  iapply h
  unfold ST ow
  isplitr; · iexact HK
  isplitl [Hin]; · iexact Hin
  isplitl [Ho]; · iexists W; iexact Ho
  isplitl [HA]; · iexact HA
  isplitl [HB Hc]
  · rw [bigSepL_cons']
    isplitl [Hc]; · unfold crd; iexact Hc
    iexact HB
  iexact HR

/-- One copy of the gather still to start: a share of the own chunk, the peer's room for it, before the last layer the own slot the peer will fill next, the two duties. -/
def agTodo (c : Dev nD) (lh : Fin 6) (m : Fin 8) : sProp 𝕄 :=
  iprop(gPts c (chunkSet (lh.val % 2) (pos c)) (ShareLeaves.leaf 3 fullShare.left m) (GG I (lh.val / 2)) ∗ (∃ f, gPts (px c m) (chunkSet (lh.val % 2) (pos c)) fullShare f)
    ∗ (if lh.val < 4 then iprop(∃ f, rPts c (slotSet (lh.val % 2) (px c m)) f) else iprop(emp))
    ∗ dutyTok ER (dcell c 2 lh (px c m)) 0 (px c m) ∗ dutyTok ER (dcell (px c m) 3 lh c) 0 c)

theorem step_ag {Q : α → sProp 𝕄} {R : sProp 𝕄} (lh : Fin 6) {m : Fin 8} (hm : px c m ≠ c) {n : Dev nD} (hn : n = px c m) {offs inbs hs sq offd inbd hd sqd} {sS sR : DmaSem sig}
    (es : offs = ![lh.val % 2, 64 * (pos c).val, 0]) (ed : offd = ![lh.val % 2, 64 * (pos c).val, 0])
    (eS : sS = dsem 2 lh (px c m)) (eR : sR = dsem 3 lh c)
    {hsc : (chM gM offd inbd (hs := hd) sqd : Memref sig (Dev.tc n : Thread nD τ).2.kind .vmem S64x256 .bf16).view.ref.isScScratch = false}
    {hsrc hdst hsem} {k : PUnit → Prog (TpuEff nD τ sig (Elt F) Λ₀ .tc) α}
    (h : ST I K c ws (bigSepL l (agTodo I c lh)) (bigSepL (m :: l') (crd c 2 lh)) R ⊢ WP c (k ⟨⟩) Q) :
    ST I K c (.ag lh m :: ws) (bigSepL (m :: l) (agTodo I c lh)) (bigSepL l' (crd c 2 lh)) R
      ⊢ WP c (Prog.lift (.enqueueDma (chM gM offs inbs (hs := hs) sq) (.remote (Dev.tc n : Thread nD τ) (chM gM offd inbd (hs := hd) sqd) (.dma sS) hsc) (.dma sR) hsrc hdst hsem) >>= k) Q := by
  subst hn eS eR
  have hh : lh.val % 2 < 2 := Nat.mod_lt _ (by decide)
  show _ ⊢ WP c (.op _ k) Q
  rw [bigSepL_cons']
  unfold ST ow
  iintro ⟨#HK, Hin, ⟨%W, Ho⟩, ⟨HT, HA⟩, HB, HR⟩
  unfold agTodo
  icases HT with ⟨Hs, ⟨%fd, Hd⟩, Hg, Ht0, Ht1⟩
  ihave #Hi0 := (recs_dma I K c 2 lh (px c m)) $$ HK
  ihave #Hi1 := (recs_dma I K (px c m) 3 lh c) $$ HK
  icases Hi0 with ⟨#HI0, #Hr0⟩
  icases Hi1 with ⟨#HI1, #Hr1⟩
  iapply (Rounds.wp_send_pointsTo_with 𝒱₀ ER (rd I) (c : Thread nD τ) none (c' := ((px c m : Dev nD) : Thread nD τ)) (κ₁ := K (c, ci 2 lh (px c m))) (κ₂ := K (px c m, ci 3 lh c))
      (src := chM gM offs inbs (hs := hs) sq) (dst := chM gM offd inbd (hs := hd) sqd) (q := ShareLeaves.leaf 3 fullShare.left m) (fs := GG I (lh.val / 2)) (fd := fd)
      (F := if lh.val < 4 then iprop(∃ f, rPts c (slotSet (lh.val % 2) (px c m)) f) else iprop(emp))
      (r₁ := 0) (r₂ := 0) (d₁ := px c m) (d₂ := c)
      (by rw [duties_dma I c 2 lh (px c m) hm]; exact Finset.mem_singleton_self _)
      (by rw [duties_dma I (px c m) 3 lh c (Ne.symm hm)]; exact Finset.mem_singleton_self _)
      () () N rfl (amount_dma I _ _ _ _ _) (amount_dma I _ _ _ _ _) (owed c ws) rfl (W := W)
      (by
        rw [payload_dma, gM_set es]
        show _ ⊢ gPts c (chunkSet (lh.val % 2) (pos c)) (ShareLeaves.leaf 3 fullShare.left (mk c (px c m))) (GG I (lh.val / 2))
        rw [mk_px])
      (by
        rw [payload_dma, gM_set ed]
        refine sep_mono (Entails.of_eq ?_) (BI.Entails.refl _)
        exact pointsTo_congr (ag_lands (GG I (lh.val / 2)) fd hh es ed))) $$ [Hs Hd Hg Ht0 Ht1 Ho]
  · isplitr; · iexact HI0
    isplitr; · iexact HI1
    isplitl [Hs]; · rw [gM_set es]; iexact Hs
    isplitl [Hd Hg]
    · isplitl [Hd]; · rw [gM_set ed]; iexact Hd
      iexact Hg
    isplitl [Ho]; · iexact Ho
    isplitl [Ht0]; · iexact Ht0
    isplitr; · iexact Hr0
    isplitl [Ht1]; · iexact Ht1
    iexact Hr1
  iintro ⟨Hc, Ho⟩
  iapply h
  unfold ST ow
  isplitr; · iexact HK
  isplitl [Hin]; · iexact Hin
  isplitl [Ho]; · iexists W; iexact Ho
  isplitl [HA]; · iexact HA
  isplitl [HB Hc]
  · rw [bigSepL_cons']
    isplitl [Hc]; · unfold crd; iexact Hc
    iexact HB
  iexact HR

/-- One wait still to come: its credit and its cell's position. -/
def wTodo (c : Dev nD) (k : Fin 4) (lh : Fin 6) (m : Fin 8) : sProp 𝕄 := iprop(crd c k lh m ∗ atPos ER (dcell c k lh (px c m)) 0 ∅ 0)
/-- What it brought: the payload, and the semaphore back at zero. -/
def wGot (c : Dev nD) (k : Fin 4) (lh : Fin 6) (m : Fin 8) : sProp 𝕄 := iprop(dpay I k.val lh c (px c m) ∗ semVal (dcell c k lh (px c m)) 0)

theorem step_wait {Q : α → sProp 𝕄} {R : sProp 𝕄} (k : Fin 4) (lh : Fin 6) {m : Fin 8} (hm : px c m ≠ c) (hlev : ∀ x ∈ ws, lvK k.val lh.val < x.lev)
    {sem : DmaSem sig} (eS : sem = dsem k lh (px c m)) {sp sp' : Space} {s s' : Shape} {e e' : EltTy} {src : Memref sig .tc sp s e} {dst : Memref sig .tc sp' s' e'} {h₁ h₂}
    (hN : dst.view.dmaCredit = N) {kk : PUnit → Prog (TpuEff nD τ sig (Elt F) Λ₀ .tc) α}
    (h : ST I K c ws (bigSepL l (wTodo c k lh)) (bigSepL (m :: l') (wGot I c k lh)) R ⊢ WP c (kk ⟨⟩) Q) :
    ST I K c ws (bigSepL (m :: l) (wTodo c k lh)) (bigSepL l' (wGot I c k lh)) R
      ⊢ WP c (Prog.lift (.waitDma2 sem src dst h₁ h₂) >>= kk) Q := by
  subst eS
  show _ ⊢ WP c (.op _ kk) Q
  rw [bigSepL_cons']
  unfold ST ow
  iintro ⟨#HK, Hin, ⟨%W, Ho⟩, ⟨HT, HA⟩, HB, HR⟩
  unfold wTodo crd
  icases HT with ⟨Hc, Ha⟩
  ihave #Hi := (recs_dma I K c k lh (px c m)) $$ HK
  icases Hi with ⟨#HI, #Hr⟩
  iapply (Rounds.wp_wait_rest_token 𝒱₀ ER (rd I) (c : Thread nD τ) none (κ := K (c, ci k lh (px c m)))
      (wpE_waitDma2_eq 𝒱₀ (c : Thread nD τ) none Set.univ) (Set.mem_univ _) () (O := owed c ws) (W := W) (R := 0) (m := 0) (T := ∅)
      (by rw [Nat.zero_add, expect_dma I c k lh (px c m) hm, hN])) $$ [Hc Ha Ho]
  · isplitr; · iexact HI
    isplitl [Hc]; · rw [hN]; iexact Hc
    isplitl [Ho]; · iexact Ho
    isplitr; · iapply (mayWait c (.dma (dsem k lh (px c m))) ws (by rw [lv_dcell]; exact hlev)); iapply (recs_lev I K) $$ HK
    iexact Ha
  iintro ⟨Ho, Ha, -, Hp⟩
  ihave Hp := (Entails.of_eq (rest_dma I c k lh (px c m) hm)) $$ Hp
  imod (Rounds.cell_close ER (rd I) (Set.mem_univ (K (c, ci k lh (px c m)))) (fun h => h) (R := 0 + 1) (duties_later I (dcell c k lh (px c m)))) $$ [Ha] with Hz
  · isplitr; · iexact HI
    iexact Ha
  iapply h
  unfold ST ow
  isplitr; · iexact HK
  isplitl [Hin]; · iexact Hin
  isplitl [Ho]; · iexists _; iexact Ho
  isplitl [HA]; · iexact HA
  isplitl [HB Hp Hz]
  · rw [bigSepL_cons']
    isplitl [Hp Hz]
    · unfold wGot; isplitl [Hp]; · iexact Hp
      iexact Hz
    iexact HB
  iexact HR

/-! ### The barrier -/

def sigTodo (c : Dev nD) (m : Fin 8) : sProp 𝕄 := iprop(dutyTok ER (barCell (px c m)) 0 c ∗ barPay (px c m) c)

theorem step_sig {Q : α → sProp 𝕄} {B R : sProp 𝕄} {m : Fin 8} (hm : px c m ≠ c) {n : Dev nD} (hn : n = px c m) {kk : PUnit → Prog (TpuEff nD τ sig (Elt F) Λ₀ .tc) α}
    (h : ST I K c ws (bigSepL l (sigTodo c)) B R ⊢ WP c (kk ⟨⟩) Q) :
    ST I K c (.bar m :: ws) (bigSepL (m :: l) (sigTodo c)) B R ⊢ WP c (semSignalWord n (SemArray.scalar (sig.barrier 0 rfl) : Sems sig S_).sem 1#32 >>= kk) Q := by
  subst hn
  simp only [semSignalWord, Prog.lift, Prog.bind_op, Prog.bind_ret]
  rw [bigSepL_cons']
  unfold ST ow
  iintro ⟨#HK, Hin, ⟨%W, Ho⟩, ⟨HT, HA⟩, HB, HR⟩
  unfold sigTodo
  icases HT with ⟨Ht, Hp⟩
  ihave #Hi := (recs_bar I K (px c m)) $$ HK
  icases Hi with ⟨#HI, #Hr⟩
  iapply (Rounds.wp_signal 𝒱₀ ER (rd I) (c : Thread nD τ) none (dst := ((px c m : Dev nD) : Thread nD τ)) (κ := K (px c m, 0)) (d := c) (r := 0)
      (by rw [duties_bar]; exact Finset.mem_erase.mpr ⟨Ne.symm hm, Finset.mem_univ _⟩) ((amount_bar I (px c m) c).trans (by decide)) () (owed c ws) rfl) $$ [Ht Hp Ho]
  · isplitr; · iexact HI
    isplitl [Ho]; · iexact Ho
    isplitl [Ht]; · iexact Ht
    isplitl [Hp]; · rw [payload_bar]; iexact Hp
    iexact Hr
  iintro Ho
  iapply h
  unfold ST ow
  isplitr; · iexact HK
  isplitl [Hin]; · iexact Hin
  isplitl [Ho]; · iexists W; iexact Ho
  isplitl [HA]; · iexact HA
  isplitl [HB]; · iexact HB
  iexact HR

/-- The barrier's wait: every other device's slots for this one. -/
def barTodo (c : Dev nD) : sProp 𝕄 := iprop(cred (tallyAt (barCell c) () 7) ∗ atPos ER (barCell c) 0 ∅ 0)
def barGot (c : Dev nD) : sProp 𝕄 := iprop(bigSep (Finset.univ.erase c) (fun d => barPay c d) ∗ semVal (barCell c) 0)

theorem step_bar {Q : α → sProp 𝕄} {A B R : sProp 𝕄} (hlev : ∀ x ∈ ws, 1 < x.lev) {kk : PUnit → Prog (TpuEff nD τ sig (Elt F) Λ₀ .tc) α}
    (h : ST I K c ws A B iprop(barGot c ∗ R) ⊢ WP c (kk ⟨⟩) Q) :
    ST I K c ws A B iprop(barTodo c ∗ R) ⊢ WP c (semWaitWord (SemArray.scalar (sig.barrier 0 rfl) : Sems sig S_).sem 7#32 >>= kk) Q := by
  simp only [semWaitWord, Prog.lift, Prog.bind_op, Prog.bind_ret]
  unfold ST ow
  iintro ⟨#HK, Hin, ⟨%W, Ho⟩, HA, HB, HT, HR⟩
  unfold barTodo
  icases HT with ⟨Hc, Ha⟩
  ihave #Hi := (recs_bar I K c) $$ HK
  icases Hi with ⟨#HI, #Hr⟩
  iapply (Rounds.wp_wait_rest_token 𝒱₀ ER (rd I) (c : Thread nD τ) none (κ := K (c, 0))
      (wpE_semWait_eq 𝒱₀ (c : Thread nD τ) none Set.univ) (Set.mem_univ _) () (O := owed c ws) (W := W) (R := 0) (m := 0) (T := ∅)
      (by rw [expect_bar]; decide)) $$ [Hc Ha Ho]
  · isplitr; · iexact HI
    isplitl [Hc]; · iexact Hc
    isplitl [Ho]; · iexact Ho
    isplitr; · iapply (mayWait c (.reg barS) ws hlev); iapply (recs_lev I K) $$ HK
    iexact Ha
  iintro ⟨Ho, Ha, -, Hp⟩
  ihave Hp := (Entails.of_eq (rest_bar I c)) $$ Hp
  imod (Rounds.cell_close ER (rd I) (Set.mem_univ (K (c, 0))) (fun h => h) (R := 0 + 1) (duties_later I (barCell c))) $$ [Ha] with Hz
  · isplitr; · iexact HI
    iexact Ha
  iapply h
  unfold ST ow barGot
  isplitr; · iexact HK
  isplitl [Hin]; · iexact Hin
  isplitl [Ho]; · iexists _; iexact Ho
  isplitl [HA]; · iexact HA
  isplitl [HB]; · iexact HB
  isplitl [Hp Hz]
  · isplitl [Hp]; · iexact Hp
    iexact Hz
  iexact HR

/-! ### Loads and stores -/

/-- A load of elements that are held, giving the value `v`. -/
theorem step_load {Q : α → sProp 𝕄} {P : sProp 𝕄} {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))} {v : r.shape.Idx → Elt F e}
    (hP : P ⊢ iprop((m.view.loc (c : Thread nD τ) ↦[S]{q} f) ∗ ((m.view.loc (c : Thread nD τ) ↦[S]{q} f) -∗ P))) (hS : m.view.setOn r.set ⊆ S)
    (hv : m.view.readAt (Elt F) r f = v) {k : (r.shape.Idx → Elt F e) → Prog (TpuEff nD τ sig (Elt F) Λ₀ .tc) α} (h : P ⊢ WP c (k v) Q) :
    P ⊢ WP c (Prog.lift (.load m r hl) >>= k) Q := by
  subst hv
  show _ ⊢ WP c (.op _ k) Q
  refine hP.trans ?_
  iintro ⟨H, Hk⟩
  iapply (wp_load 𝒱₀ (c : Thread nD τ) none Set.univ (m := m) hS) $$ H
  iintro H
  iapply h
  iapply Hk
  iexact H

/-- A load whose value nothing uses. -/
theorem step_dead {Q : α → sProp 𝕄} {P : sProp 𝕄} {cs : CoreSpace} {s : Shape} {e : EltTy} {m : Memref sig .tc cs s e} {r : LoadRect s} {hl : m.view.LoadsAt r}
    (S : Finset (Idx (m.view.loc (c : Thread nD τ)))) (q : PosShare TreeShare)
    (hP : P ⊢ iprop(∃ f, (m.view.loc (c : Thread nD τ) ↦[S]{q} f) ∗ ((m.view.loc (c : Thread nD τ) ↦[S]{q} f) -∗ P))) (hS : m.view.setOn r.set ⊆ S)
    {k : (r.shape.Idx → Elt F e) → Prog (TpuEff nD τ sig (Elt F) Λ₀ .tc) α} (h : ∀ v, P ⊢ WP c (k v) Q) :
    P ⊢ WP c (Prog.lift (.load m r hl) >>= k) Q := by
  show _ ⊢ WP c (.op _ k) Q
  refine hP.trans ?_
  iintro ⟨%f, H, Hk⟩
  iapply (wp_load 𝒱₀ (c : Thread nD τ) none Set.univ (m := m) hS) $$ H
  iintro H
  iapply (h _)
  iapply Hk
  iexact H

/-- A store over elements that are held, after which they hold `g`. -/
theorem step_store {Q : α → sProp 𝕄} {P P' : sProp 𝕄} {cs : CoreSpace} {s : Shape} {e : EltTy} {m : Memref sig .tc cs s e} {r : Rect s} {w : r.shape.Idx → Elt F e} {hx hm}
    {S : Finset (Idx ((m.access r).loc (c : Thread nD τ)))} {g : Buf (Elt F) ((m.access r).loc (c : Thread nD τ))}
    (hP : P ⊢ iprop(∃ f, ((m.access r).loc (c : Thread nD τ) ↦[S]{fullShare} f) ∗ (((m.access r).loc (c : Thread nD τ) ↦[S]{fullShare} g) -∗ P')))
    (hS : (m.access r).setOn Finset.univ ⊆ S) (hg : ∀ f, ∀ i ∈ S, (m.access r).write (Elt F) f w Finset.univ i = g i)
    {k : PUnit → Prog (TpuEff nD τ sig (Elt F) Λ₀ .tc) α} (h : P' ⊢ WP c (k ⟨⟩) Q) :
    P ⊢ WP c (Prog.lift (.store m r w Finset.univ hx hm) >>= k) Q := by
  show _ ⊢ WP c (.op _ k) Q
  refine hP.trans ?_
  iintro ⟨%f, H, Hk⟩
  iapply (wp_store 𝒱₀ (c : Thread nD τ) none Set.univ (m := m) (r := r) (Mk := Finset.univ) hS) $$ H
  iintro H
  iapply h
  iapply Hk
  iapply (Entails.of_eq (pointsTo_congr (hg f))) $$ H

/-! ### The loads and stores of the body -/

omit [FloatOps F] in
theorem take_head (X Y : sProp 𝕄) : iprop(X ∗ Y) ⊢ iprop(X ∗ (X -∗ iprop(X ∗ Y))) := by
  iintro ⟨HX, HY⟩
  isplitl [HX]; · iexact HX
  iintro HX
  isplitl [HX]; · iexact HX
  iexact HY
omit [FloatOps F] in
theorem take_tail {X Y Z : sProp 𝕄} (h : Y ⊢ iprop(Z ∗ (Z -∗ Y))) : iprop(X ∗ Y) ⊢ iprop(Z ∗ (Z -∗ iprop(X ∗ Y))) := by
  iintro ⟨HX, HY⟩
  ihave H := h $$ HY
  icases H with ⟨HZ, Hw⟩
  isplitl [HZ]; · iexact HZ
  iintro HZ
  isplitl [HX]; · iexact HX
  iapply Hw
  iexact HZ
omit [FloatOps F] in
theorem take_last (X : sProp 𝕄) : X ⊢ iprop(X ∗ (X -∗ X)) := by
  iintro HX
  isplitl [HX]; · iexact HX
  iintro HX
  iexact HX
/-- The head of the rest, with what puts it (or what replaces it) back. -/
theorem st_rest {A B X X' Y : sProp 𝕄} : ST I K c ws A B iprop(X ∗ Y) ⊢ iprop(X ∗ (X' -∗ ST I K c ws A B iprop(X' ∗ Y))) := by
  unfold ST
  iintro ⟨HK, Hi, Ho, HA, HB, HX, HY⟩
  isplitl [HX]; · iexact HX
  iintro HX
  isplitl [HK]; · iexact HK
  isplitl [Hi]; · iexact Hi
  isplitl [Ho]; · iexact Ho
  isplitl [HA]; · iexact HA
  isplitl [HB]; · iexact HB
  isplitl [HX]; · iexact HX
  iexact HY
theorem st_inp {A B R X : sProp 𝕄} (h : inp I c ⊢ iprop(X ∗ (X -∗ inp I c))) : ST I K c ws A B R ⊢ iprop(X ∗ (X -∗ ST I K c ws A B R)) := by
  unfold ST
  iintro ⟨HK, Hi, HR⟩
  ihave H := h $$ Hi
  icases H with ⟨HX, Hw⟩
  isplitl [HX]; · iexact HX
  iintro HX
  isplitl [HK]; · iexact HK
  isplitl [Hw HX]; · iapply Hw; iexact HX
  iexact HR
/-- The head of what a stage has done. -/
theorem st_done {A R X : sProp 𝕄} {Φ : Fin 8 → sProp 𝕄} {m : Fin 8} (h : Φ m ⊢ iprop(X ∗ (X -∗ Φ m))) :
    ST I K c ws A (bigSepL (m :: l') Φ) R ⊢ iprop(X ∗ (X -∗ ST I K c ws A (bigSepL (m :: l') Φ) R)) := by
  rw [bigSepL_cons']
  unfold ST
  iintro ⟨HK, Hi, Ho, HA, ⟨HΦ, HB⟩, HR⟩
  ihave H := h $$ HΦ
  icases H with ⟨HX, Hw⟩
  isplitl [HX]; · iexact HX
  iintro HX
  isplitl [HK]; · iexact HK
  isplitl [Hi]; · iexact Hi
  isplitl [Ho]; · iexact Ho
  isplitl [HA]; · iexact HA
  isplitl [HX Hw HB]
  · isplitl [HX Hw]; · iapply Hw; iexact HX
    iexact HB
  iexact HR

theorem in_x (c : Dev nD) : inp I c ⊢ iprop((((c : Thread nD τ).loc cc0_stg0_0) ↦[Finset.univ]{fullShare} I.x c) ∗ ((((c : Thread nD τ).loc cc0_stg0_0) ↦[Finset.univ]{fullShare} I.x c) -∗ inp I c)) :=
  take_head _ _
theorem in_wi0 (c : Dev nD) : inp I c ⊢ iprop((((c : Thread nD τ).loc cc0_stg1_0) ↦[Finset.univ]{fullShare} I.win 0 c) ∗ ((((c : Thread nD τ).loc cc0_stg1_0) ↦[Finset.univ]{fullShare} I.win 0 c) -∗ inp I c)) :=
  take_tail (take_head _ _)
theorem in_wo0 (c : Dev nD) : inp I c ⊢ iprop((((c : Thread nD τ).loc cc0_stg2_0) ↦[Finset.univ]{fullShare} I.wout 0 c) ∗ ((((c : Thread nD τ).loc cc0_stg2_0) ↦[Finset.univ]{fullShare} I.wout 0 c) -∗ inp I c)) :=
  take_tail (take_tail (take_head _ _))
theorem in_wi1 (c : Dev nD) : inp I c ⊢ iprop((((c : Thread nD τ).loc cc0_stg3_0) ↦[Finset.univ]{fullShare} I.win 1 c) ∗ ((((c : Thread nD τ).loc cc0_stg3_0) ↦[Finset.univ]{fullShare} I.win 1 c) -∗ inp I c)) :=
  take_tail (take_tail (take_tail (take_head _ _)))
theorem in_wo1 (c : Dev nD) : inp I c ⊢ iprop((((c : Thread nD τ).loc cc0_stg4_0) ↦[Finset.univ]{fullShare} I.wout 1 c) ∗ ((((c : Thread nD τ).loc cc0_stg4_0) ↦[Finset.univ]{fullShare} I.wout 1 c) -∗ inp I c)) :=
  take_tail (take_tail (take_tail (take_tail (take_head _ _))))
theorem in_wi2 (c : Dev nD) : inp I c ⊢ iprop((((c : Thread nD τ).loc cc0_stg5_0) ↦[Finset.univ]{fullShare} I.win 2 c) ∗ ((((c : Thread nD τ).loc cc0_stg5_0) ↦[Finset.univ]{fullShare} I.win 2 c) -∗ inp I c)) :=
  take_tail (take_tail (take_tail (take_tail (take_tail (take_head _ _)))))
theorem in_wo2 (c : Dev nD) : inp I c ⊢ iprop((((c : Thread nD τ).loc cc0_stg6_0) ↦[Finset.univ]{fullShare} I.wout 2 c) ∗ ((((c : Thread nD τ).loc cc0_stg6_0) ↦[Finset.univ]{fullShare} I.wout 2 c) -∗ inp I c)) :=
  take_tail (take_tail (take_tail (take_tail (take_tail (take_tail (take_last _))))))

theorem step_in {Q : α → sProp 𝕄} {A B R : sProp 𝕄} {cs : CoreSpace} {s : Shape} {e : EltTy} {m : Memref sig .tc cs s e} {r : LoadRect s} {hl : m.view.LoadsAt r}
    {f : Buf (Elt F) (m.view.loc (c : Thread nD τ))}
    (hX : inp I c ⊢ iprop((m.view.loc (c : Thread nD τ) ↦[Finset.univ]{fullShare} f) ∗ ((m.view.loc (c : Thread nD τ) ↦[Finset.univ]{fullShare} f) -∗ inp I c)))
    {v : r.shape.Idx → Elt F e} (hv : m.view.readAt (Elt F) r f = v) {k : (r.shape.Idx → Elt F e) → Prog (TpuEff nD τ sig (Elt F) Λ₀ .tc) α}
    (h : ST I K c ws A B R ⊢ WP c (k v) Q) :
    ST I K c ws A B R ⊢ WP c (Prog.lift (.load m r hl) >>= k) Q :=
  step_load (st_inp I K hX) (Finset.subset_univ _) hv h

omit [FloatOps F] in
theorem whole_setOn (b : Ref sig .tc) (S : Finset b.ty.shape.Idx) : (Memref.whole b : Memref sig .tc _ _ _).view.setOn S = S := Finset.map_refl

/-- The dead load of a half of the first buffer, its store. -/
theorem dead_h {Q : α → sProp 𝕄} {A B R : sProp 𝕄} (hf : ℕ) {off : Fin 3 → ℕ} {inb : ∀ a, off a + S1x512x256.size a ≤ S2x512x256.size a} (e : off = ![hf, 0, 0]) {hl}
    {k : Vec F S1x512x256 .bf16 → Prog (TpuEff nD τ sig (Elt F) Λ₀ .tc) α}
    (h : ∀ v, ST I K c ws A B iprop((∃ f, hPts c (halfSet hf) f) ∗ R) ⊢ WP c (k v) Q) :
    ST I K c ws A B iprop((∃ f, hPts c (halfSet hf) f) ∗ R) ⊢ WP c (Prog.lift (.load hM (Rect.unit (s := S2x512x256) off S1x512x256.size inb).toLoadRect hl) >>= k) Q := by
  refine step_dead (m := hM) (S := halfSet hf) (q := fullShare) ?_ ?_ h
  · refine (st_rest I K (X' := iprop(∃ f, hPts c (halfSet hf) f))).trans ?_
    iintro ⟨⟨%f, H⟩, Hw⟩
    iexists f
    isplitl [H]; · iexact H
    iintro H
    iapply Hw
    iexists f
    iexact H
  · rw [whole_setOn]
    exact (unit3h_set (inb := inb) e).subset

theorem store_h {Q : α → sProp 𝕄} {A B R : sProp 𝕄} (lh : Fin 6) {off : Fin 3 → ℕ} {inb : ∀ a, off a + S1x512x256.size a ≤ S2x512x256.size a} (e : off = ![lh.val % 2, 0, 0])
    {w : FVec F S1x512x256 .bf16} (hw : w = hval (XV I (lh.val / 2) c) (I.win (lh.val / 2) c) (lh.val % 2)) {hx hm}
    {k : PUnit → Prog (TpuEff nD τ sig (Elt F) Λ₀ .tc) α}
    (h : ST I K c ws A B iprop(hPts c (halfSet (lh.val % 2)) (HH I (lh.val / 2) c) ∗ R) ⊢ WP c (k ⟨⟩) Q) :
    ST I K c ws A B iprop((∃ f, hPts c (halfSet (lh.val % 2)) f) ∗ R) ⊢ WP c (Prog.lift (.store hM (Rect.unit (s := S2x512x256) off S1x512x256.size inb) w Finset.univ hx hm) >>= k) Q := by
  refine step_store (m := hM) (r := Rect.unit (s := S2x512x256) off S1x512x256.size inb) (S := halfSet (lh.val % 2)) (g := HH I (lh.val / 2) c) ?_ ?_ ?_ h
  · refine (st_rest I K (X' := hPts c (halfSet (lh.val % 2)) (HH I (lh.val / 2) c))).trans ?_
    iintro ⟨⟨%f, H⟩, Hw⟩
    iexists f
    isplitl [H]; · iexact H
    iexact Hw
  · rw [View.setOn_univ]
    show ((View.whole cc0_scratch0).slice (Rect.unit (s := S2x512x256) off S1x512x256.size inb)).set ⊆ _
    rw [View.set_slice_whole]
    exact (unit3h_set (inb := inb) e).subset
  · intro f i hi
    rw [← unit3h_set (inb := inb) e] at hi
    rw [← Rect.map_emb_univ] at hi
    obtain ⟨j, -, rfl⟩ := Finset.mem_map.mp hi
    refine (View.write_emb_of_mem (v := (hM.access (Rect.unit (s := S2x512x256) off S1x512x256.size inb))) f w (Finset.mem_univ j)).trans ?_
    subst hw e
    have h0 : (j 0).val = 0 := Nat.lt_one_iff.mp (j 0).isLt
    unfold HH HB
    have e0 : ((Rect.unit (s := S2x512x256) ![lh.val % 2, 0, 0] S1x512x256.size inb).emb j 0).val = lh.val % 2 := by
      show lh.val % 2 + 1 * (j 0).val = lh.val % 2
      omega
    rw [e0]
    show hval _ _ _ j = hval _ _ _ _
    congr 1
    funext a
    apply Fin.ext
    fin_cases a
    · exact h0
    · show (j 1).val = 0 + 1 * (j 1).val; omega
    · show (j 2).val = 0 + 1 * (j 2).val; omega

/-- The load of the own chunk of the first buffer. -/
theorem load_own {Q : α → sProp 𝕄} {A B R : sProp 𝕄} {hf : ℕ} {off : Fin 3 → ℕ} {inb : ∀ a, off a + S1x64x256.size a ≤ S2x512x256.size a} (e : off = ![hf, 64 * (pos c).val, 0]) {hl}
    {f : S2x512x256.Idx → Elt F .bf16} {v} (hv : hM.view.readAt (Elt F) (Rect.unit (s := S2x512x256) off S1x64x256.size inb).toLoadRect f = v)
    {k : Vec F S1x64x256 .bf16 → Prog (TpuEff nD τ sig (Elt F) Λ₀ .tc) α}
    (h : ST I K c ws A B iprop(hPts c (chunkSet hf (pos c)) f ∗ R) ⊢ WP c (k v) Q) :
    ST I K c ws A B iprop(hPts c (chunkSet hf (pos c)) f ∗ R) ⊢ WP c (Prog.lift (.load hM (Rect.unit (s := S2x512x256) off S1x64x256.size inb).toLoadRect hl) >>= k) Q := by
  refine step_load (m := hM) (st_rest I K) ?_ hv h
  rw [whole_setOn]
  exact (unit3_set (inb := inb) e).subset

theorem wGot_one (lh : Fin 6) (m : Fin 8) : wGot I c 1 lh m = iprop((rPts c (slotSet (lh.val % 2) (px c m)) (RR I (lh.val / 2) c)
    ∗ (∃ f, gPts (px c m) (chunkSet (lh.val % 2) (pos c)) fullShare f)) ∗ semVal (dcell c 1 lh (px c m)) 0) := rfl

/-- The load of the slot that the last wait filled. -/
theorem load_slot {Q : α → sProp 𝕄} {A R : sProp 𝕄} {lh : Fin 6} {m : Fin 8} {off : Fin 4 → ℕ} {inb : ∀ a, off a + S1x1x64x256.size a ≤ S2x8x64x256.size a}
    (e : off = ![lh.val % 2, (px c m).val, 0, 0]) {hl}
    {v} (hv : rM.view.readAt (Elt F) (Rect.unit (s := S2x8x64x256) off S1x1x64x256.size inb).toLoadRect (RR I (lh.val / 2) c) = v)
    {k : Vec F S1x1x64x256 .bf16 → Prog (TpuEff nD τ sig (Elt F) Λ₀ .tc) α}
    (h : ST I K c ws A (bigSepL (m :: l') (wGot I c 1 lh)) R ⊢ WP c (k v) Q) :
    ST I K c ws A (bigSepL (m :: l') (wGot I c 1 lh)) R ⊢ WP c (Prog.lift (.load rM (Rect.unit (s := S2x8x64x256) off S1x1x64x256.size inb).toLoadRect hl) >>= k) Q := by
  refine step_load (m := rM) (S := slotSet (lh.val % 2) (px c m)) (q := fullShare) (f := RR I (lh.val / 2) c) (st_done I K ?_) ?_ hv h
  · rw [wGot_one]
    iintro ⟨⟨H, Hg⟩, Hz⟩
    isplitl [H]; · iexact H
    iintro H
    isplitr [Hz]
    · isplitl [H]; · iexact H
      iexact Hg
    iexact Hz
  · rw [whole_setOn]
    exact (unit4_set (inb := inb) e).subset

/-- The dead load of the own chunk of the gathered buffer, its store. -/
theorem dead_g {Q : α → sProp 𝕄} {A B R : sProp 𝕄} {hf : ℕ} {off : Fin 3 → ℕ} {inb : ∀ a, off a + S1x64x256.size a ≤ S2x512x256.size a} (e : off = ![hf, 64 * (pos c).val, 0]) {hl}
    {k : Vec F S1x64x256 .bf16 → Prog (TpuEff nD τ sig (Elt F) Λ₀ .tc) α}
    (h : ∀ v, ST I K c ws A B iprop((∃ f, gPts c (chunkSet hf (pos c)) fullShare f) ∗ R) ⊢ WP c (k v) Q) :
    ST I K c ws A B iprop((∃ f, gPts c (chunkSet hf (pos c)) fullShare f) ∗ R) ⊢ WP c (Prog.lift (.load gM (Rect.unit (s := S2x512x256) off S1x64x256.size inb).toLoadRect hl) >>= k) Q := by
  refine step_dead (m := gM) (S := chunkSet hf (pos c)) (q := fullShare) ?_ ?_ h
  · refine (st_rest I K (X' := iprop(∃ f, gPts c (chunkSet hf (pos c)) fullShare f))).trans ?_
    iintro ⟨⟨%f, H⟩, Hw⟩
    iexists f
    isplitl [H]; · iexact H
    iintro H
    iapply Hw
    iexists f
    iexact H
  · rw [whole_setOn]
    exact (unit3_set (inb := inb) e).subset
theorem store_g {Q : α → sProp 𝕄} {A B R : sProp 𝕄} (lh : Fin 6) {off : Fin 3 → ℕ} {inb : ∀ a, off a + S1x64x256.size a ≤ S2x512x256.size a}
    (e : off = ![lh.val % 2, 64 * (pos c).val, 0])
    {w : FVec F S1x64x256 .bf16} (hw : w = myh (HH I (lh.val / 2)) (lh.val % 2) c) {hx hm}
    {k : PUnit → Prog (TpuEff nD τ sig (Elt F) Λ₀ .tc) α}
    (h : ST I K c ws A B iprop(gPts c (chunkSet (lh.val % 2) (pos c)) fullShare (GG I (lh.val / 2)) ∗ R) ⊢ WP c (k ⟨⟩) Q) :
    ST I K c ws A B iprop((∃ f, gPts c (chunkSet (lh.val % 2) (pos c)) fullShare f) ∗ R)
      ⊢ WP c (Prog.lift (.store gM (Rect.unit (s := S2x512x256) off S1x64x256.size inb) w Finset.univ hx hm) >>= k) Q := by
  refine step_store (m := gM) (r := Rect.unit (s := S2x512x256) off S1x64x256.size inb) (S := chunkSet (lh.val % 2) (pos c)) (g := GG I (lh.val / 2)) ?_ ?_ ?_ h
  · refine (st_rest I K (X' := gPts c (chunkSet (lh.val % 2) (pos c)) fullShare (GG I (lh.val / 2)))).trans ?_
    iintro ⟨⟨%f, H⟩, Hw⟩
    iexists f
    isplitl [H]; · iexact H
    iexact Hw
  · rw [View.setOn_univ]
    show ((View.whole cc0_scratch2).slice (Rect.unit (s := S2x512x256) off S1x64x256.size inb)).set ⊆ _
    rw [View.set_slice_whole]
    exact (unit3_set (inb := inb) e).subset
  · intro f i hi
    rw [← unit3_set (inb := inb) e] at hi
    rw [← Rect.map_emb_univ] at hi
    obtain ⟨j, -, rfl⟩ := Finset.mem_map.mp hi
    refine (View.write_emb_of_mem (v := (gM.access (Rect.unit (s := S2x512x256) off S1x64x256.size inb))) f w (Finset.mem_univ j)).trans ?_
    subst hw e
    have h0 : (j 0).val = 0 := Nat.lt_one_iff.mp (j 0).isLt
    have h1 : (j 1).val < 64 := (j 1).isLt
    unfold GG HG
    have e0 : ((Rect.unit (s := S2x512x256) ![lh.val % 2, 64 * (pos c).val, 0] S1x64x256.size inb).emb j 0).val = lh.val % 2 := by
      show lh.val % 2 + 1 * (j 0).val = lh.val % 2
      omega
    have e1 : ((Rect.unit (s := S2x512x256) ![lh.val % 2, 64 * (pos c).val, 0] S1x64x256.size inb).emb j 1).val = 64 * (pos c).val + (j 1).val := by
      show 64 * (pos c).val + 1 * (j 1).val = 64 * (pos c).val + (j 1).val
      omega
    rw [e0]
    have ep : pos ⟨((Rect.unit (s := S2x512x256) ![lh.val % 2, 64 * (pos c).val, 0] S1x64x256.size inb).emb j 1).val / 64, by rw [e1]; have := (pos c).isLt; omega⟩ = c := by
      refine (congrArg pos (Fin.ext ?_)).trans (pos_pos c)
      show _ / 64 = _
      rw [e1]; omega
    rw [ep]
    show myh _ _ c j = myh _ _ c _
    congr 1
    funext a
    apply Fin.ext
    fin_cases a
    · exact h0
    · show (j 1).val = _ % 64; rw [e1]; omega
    · show (j 2).val = 0 + 1 * (j 2).val; omega

/-- The load of a half of the gathered buffer. -/
theorem load_half {Q : α → sProp 𝕄} {A B R : sProp 𝕄} {hf : ℕ} {q : PosShare TreeShare} {off : Fin 3 → ℕ} {inb : ∀ a, off a + S1x512x256.size a ≤ S2x512x256.size a} (e : off = ![hf, 0, 0]) {hl}
    {f : S2x512x256.Idx → Elt F .bf16} {v} (hv : gM.view.readAt (Elt F) (Rect.unit (s := S2x512x256) off S1x512x256.size inb).toLoadRect f = v)
    {k : Vec F S1x512x256 .bf16 → Prog (TpuEff nD τ sig (Elt F) Λ₀ .tc) α}
    (h : ST I K c ws A B iprop(gPts c (halfSet hf) q f ∗ R) ⊢ WP c (k v) Q) :
    ST I K c ws A B iprop(gPts c (halfSet hf) q f ∗ R) ⊢ WP c (Prog.lift (.load gM (Rect.unit (s := S2x512x256) off S1x512x256.size inb).toLoadRect hl) >>= k) Q := by
  refine step_load (m := gM) (st_rest I K) ?_ hv h
  rw [whole_setOn]
  exact (unit3h_set (inb := inb) e).subset

/-- The result's staging buffer: its dead load, its store. -/
abbrev oPts (c : Dev nD) (f : S512x256.Idx → Elt F .f32) : sProp 𝕄 := ((c : Thread nD τ).loc cc0_stg7_0) ↦[Finset.univ]{fullShare} f
abbrev oM : Memref sig .tc .vmem S512x256 .f32 := Memref.whole cc0_stg7_0
theorem dead_o {Q : α → sProp 𝕄} {A B R : sProp 𝕄} {r : LoadRect S512x256} {hl} {k : (r.shape.Idx → Elt F .f32) → Prog (TpuEff nD τ sig (Elt F) Λ₀ .tc) α}
    (h : ∀ v, ST I K c ws A B iprop((∃ f, oPts c f) ∗ R) ⊢ WP c (k v) Q) :
    ST I K c ws A B iprop((∃ f, oPts c f) ∗ R) ⊢ WP c (Prog.lift (.load oM r hl) >>= k) Q := by
  refine step_dead (m := oM) (S := Finset.univ) (q := fullShare) ?_ (Finset.subset_univ _) h
  refine (st_rest I K (X' := iprop(∃ f, oPts c f))).trans ?_
  iintro ⟨⟨%f, H⟩, Hw⟩
  iexists f
  isplitl [H]; · iexact H
  iintro H
  iapply Hw
  iexists f
  iexact H
theorem store_o {Q : α → sProp 𝕄} {A B R : sProp 𝕄} {w : FVec F S512x256 .f32} {v : S512x256.Idx → Elt F .f32} (hw : w = v) {hx hm} {k : PUnit → Prog (TpuEff nD τ sig (Elt F) Λ₀ .tc) α}
    (h : ST I K c ws A B iprop(oPts c v ∗ R) ⊢ WP c (k ⟨⟩) Q) :
    ST I K c ws A B iprop((∃ f, oPts c f) ∗ R)
      ⊢ WP c (Prog.lift (.store oM (Rect.unit (s := S512x256) ![0, 0] S512x256.size inb_S512x256_S512x256_0_0) w Finset.univ hx hm) >>= k) Q := by
  subst hw
  refine step_store (m := oM) (S := Finset.univ) (g := w) ?_ (Finset.subset_univ _) ?_ h
  · refine (st_rest I K (X' := oPts c w)).trans ?_
    iintro ⟨⟨%f, H⟩, Hw⟩
    iexists f
    isplitl [H]; · iexact H
    iexact Hw
  · intro f i _
    have he : (oM.access (Rect.unit (s := S512x256) ![0, 0] S512x256.size inb_S512x256_S512x256_0_0)).emb i = i := by
      funext a
      apply Fin.ext
      fin_cases a
      · show 0 + 1 * (i 0).val = (i 0).val; omega
      · show 0 + 1 * (i 1).val = (i 1).val; omega
    have h := View.write_emb_of_mem (v := oM.access (Rect.unit (s := S512x256) ![0, 0] S512x256.size inb_S512x256_S512x256_0_0)) (Val := Elt F) f w (M := Finset.univ) (Finset.mem_univ i)
    rw [he] at h
    exact h

end Steps

end Cert.KProof
-- ==== Proof.Stages.lean ====
/-
  What a device holds between the stages of the body, half by half, and the passages from one stage to the next.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## Families over the peers -/

/-- One for each peer's mask. -/
def PB (Φ : Fin 8 → sProp 𝕄) : sProp 𝕄 := bigSep peers Φ

abbrev descR : List (Fin 8) := [4, 3, 1, 7, 5, 2, 6]
abbrev ascR : List (Fin 8) := [6, 7, 5, 2, 4, 3, 1]

section PB
omit [FloatOps F]
theorem pb_desc (Φ : Fin 8 → sProp 𝕄) : PB Φ = bigSepL desc Φ := bigSep_eq_bigSepL_of_eq desc (by decide) (by decide) Φ
theorem pb_descR (Φ : Fin 8 → sProp 𝕄) : PB Φ = bigSepL descR Φ := bigSep_eq_bigSepL_of_eq descR (by decide) (by decide) Φ
theorem pb_asc (Φ : Fin 8 → sProp 𝕄) : PB Φ = bigSepL asc Φ := bigSep_eq_bigSepL_of_eq asc (by decide) (by decide) Φ
theorem pb_ascR (Φ : Fin 8 → sProp 𝕄) : PB Φ = bigSepL ascR Φ := bigSep_eq_bigSepL_of_eq ascR (by decide) (by decide) Φ
theorem pb_sep (Φ Ψ : Fin 8 → sProp 𝕄) : PB (fun m => iprop(Φ m ∗ Ψ m)) = iprop(PB Φ ∗ PB Ψ) := bigSep_sep' peers Φ Ψ
theorem pb_congr {Φ Ψ : Fin 8 → sProp 𝕄} (h : ∀ m, Φ m = Ψ m) : PB Φ = PB Ψ := congrArg PB (funext h)
theorem pb_mono {Φ Ψ : Fin 8 → sProp 𝕄} (h : ∀ m, Φ m ⊢ Ψ m) : PB Φ ⊢ PB Ψ := bigSep_mono fun m _ => h m
theorem pb_emp : (iprop(emp) : sProp 𝕄) ⊢ PB fun _ => iprop(emp) := by
  rw [pb_asc]
  simp only [bigSepL_cons', bigSepL_nil]
  iintro -
  repeat
    isplitr
    · iempintro
  iempintro
theorem pb_univ (Φ : Fin 8 → sProp 𝕄) : bigSep Finset.univ Φ = iprop(Φ 0 ∗ PB Φ) := bigSep_univ_at Φ 0
end PB

/-! ## The buffers by chunks -/

theorem chunk_disj (c : Dev nD) (h : ℕ) (m m' : Fin 8) (hne : m ≠ m') : Disjoint (chunkSet h (pos (px c m))) (chunkSet h (pos (px c m'))) := by
  rw [Finset.disjoint_left]
  intro i hi hi'
  rw [mem_chunkSet] at hi hi'
  exact hne (px_inj c (pos_inj (Fin.ext (hi.2.symm.trans hi'.2))))
theorem half_eq (c : Dev nD) (h : ℕ) : halfSet h = Finset.univ.biUnion fun m : Fin 8 => chunkSet h (pos (px c m)) := by
  ext i
  have hi : (i 1).val < 512 := (i 1).isLt
  simp only [Finset.mem_biUnion, Finset.mem_univ, true_and, mem_chunkSet, mem_halfSet]
  refine ⟨fun e => ⟨mk c (pos ⟨(i 1).val / 64, by omega⟩), e, ?_⟩, fun ⟨m, e, _⟩ => e⟩
  rw [px_mk, pos_pos]

theorem h_half (c : Dev nD) (h : ℕ) (f : S2x512x256.Idx → Elt F .bf16) :
    hPts c (halfSet h) f = iprop(hPts c (chunkSet h (pos c)) f ∗ PB fun m => hPts c (chunkSet h (pos (px c m))) f) := by
  have e := pb_univ (F := F) fun m => hPts c (chunkSet h (pos (px c m))) f
  rw [px_zero] at e
  rw [← e, half_eq c h]
  exact pointsTo_biUnion _ _ fun m _ m' _ hne => chunk_disj c h m m' hne
theorem g_half (c : Dev nD) (h : ℕ) (q : PosShare TreeShare) (f : S2x512x256.Idx → Elt F .bf16) :
    gPts c (halfSet h) q f = iprop(gPts c (chunkSet h (pos c)) q f ∗ PB fun m => gPts c (chunkSet h (pos (px c m))) q f) := by
  have e := pb_univ (F := F) fun m => gPts c (chunkSet h (pos (px c m))) q f
  rw [px_zero] at e
  rw [← e, half_eq c h]
  exact pointsTo_biUnion _ _ fun m _ m' _ hne => chunk_disj c h m m' hne
theorem g_lr (c : Dev nD) (S : Finset S2x512x256.Idx) (f : S2x512x256.Idx → Elt F .bf16) :
    gPts c S fullShare f = iprop(gPts c S fullShare.left f ∗ gPts c S fullShare.right f) :=
  BI.Entails.antisymm (pointsTo_share (PosShare.mem_left_op_right fullShare)).1 (pointsTo_share (PosShare.mem_left_op_right fullShare)).2
theorem leaves_eight (c : Dev nD) (S : Finset S2x512x256.Idx) (f : S2x512x256.Idx → Elt F .bf16) :
    gPts c S fullShare.left f = bigSep (Finset.univ : Finset (Fin 8)) fun m => gPts c S (ShareLeaves.leaf 3 fullShare.left m) f :=
  ShareLeaves.pointsTo_leaves (ℓ := (c : Thread nD τ).loc cc0_scratch2) S f 3 fullShare.left
theorem g_leaves (c : Dev nD) (S : Finset S2x512x256.Idx) (f : S2x512x256.Idx → Elt F .bf16) :
    gPts c S fullShare f = iprop(gPts c S (ShareLeaves.leaf 3 fullShare.left 0) f ∗ gPts c S fullShare.right f ∗ PB fun m => gPts c S (ShareLeaves.leaf 3 fullShare.left m) f) := by
  have e : gPts c S fullShare.left f = iprop(gPts c S (ShareLeaves.leaf 3 fullShare.left 0) f ∗ PB fun m => gPts c S (ShareLeaves.leaf 3 fullShare.left m) f) :=
    (leaves_eight c S f).trans (pb_univ (F := F) fun m => gPts c S (ShareLeaves.leaf 3 fullShare.left m) f)
  rw [g_lr, e]
  refine BI.Entails.antisymm ?_ ?_
  · show iprop((gPts c S (ShareLeaves.leaf 3 fullShare.left 0) f ∗ PB fun m => gPts c S (ShareLeaves.leaf 3 fullShare.left m) f) ∗ gPts c S fullShare.right f) ⊢ _
    iintro ⟨⟨H0, H1⟩, H2⟩
    iframe H0 H1 H2
  · show iprop(gPts c S (ShareLeaves.leaf 3 fullShare.left 0) f ∗ gPts c S fullShare.right f ∗ PB fun m => gPts c S (ShareLeaves.leaf 3 fullShare.left m) f) ⊢ _
    iintro ⟨H0, H2, H1⟩
    iframe H0 H1 H2

/-! ## What a half holds -/

section Defs
variable (c : Dev nD)

def tokR (lh : Fin 6) : sProp 𝕄 := PB fun m => iprop(dutyTok ER (dcell c 0 lh (px c m)) 0 (px c m) ∗ dutyTok ER (dcell (px c m) 1 lh c) 0 c)
def tokA (lh : Fin 6) : sProp 𝕄 := PB fun m => iprop(dutyTok ER (dcell c 2 lh (px c m)) 0 (px c m) ∗ dutyTok ER (dcell (px c m) 3 lh c) 0 c)
/-- The positions of the cells of a kind, the waits still to come, the semaphores closed. -/
def aT (k : Fin 4) (lh : Fin 6) : sProp 𝕄 := PB fun m => atPos ER (dcell c k lh (px c m)) 0 ∅ 0
def wT (k : Fin 4) (lh : Fin 6) : sProp 𝕄 := PB (wTodo c k lh)
def sV (k : Fin 4) (lh : Fin 6) : sProp 𝕄 := PB fun m => semVal (dcell c k lh (px c m)) 0
/-- A layer's half not yet begun. -/
def U (lh : Fin 6) : sProp 𝕄 := iprop(tokR c lh ∗ tokA c lh ∗ aT c 0 lh ∗ aT c 2 lh ∗ wT c 1 lh ∗ wT c 3 lh)
/-- The peers' slots for this device, the chunks that are not its own. -/
def rR (h : ℕ) : sProp 𝕄 := PB fun m => iprop(∃ f, rPts (px c m) (slotSet h c) f)
def gP (h : ℕ) : sProp 𝕄 := PB fun m => iprop(∃ f, gPts c (chunkSet h (pos (px c m))) fullShare f)
def gOwn (h : ℕ) : sProp 𝕄 := iprop(∃ f, gPts c (chunkSet h (pos c)) fullShare f)
def hAny (h : ℕ) : sProp 𝕄 := iprop(∃ f, hPts c (halfSet h) f)

variable (I : Inp F)

def gLeaf (lh : Fin 6) : sProp 𝕄 := gPts c (chunkSet (lh.val % 2) (pos c)) (ShareLeaves.leaf 3 fullShare.left 0) (GG I (lh.val / 2))
def gRight (lh : Fin 6) : sProp 𝕄 := gPts c (chunkSet (lh.val % 2) (pos c)) fullShare.right (GG I (lh.val / 2))
def hOwn (lh : Fin 6) : sProp 𝕄 := hPts c (chunkSet (lh.val % 2) (pos c)) (HH I (lh.val / 2) c)
def gPK (lh : Fin 6) : sProp 𝕄 := PB fun m => gPts c (chunkSet (lh.val % 2) (pos (px c m))) fullShare (GG I (lh.val / 2))
def gPL (lh : Fin 6) : sProp 𝕄 := PB fun m => gPts c (chunkSet (lh.val % 2) (pos (px c m))) fullShare.left (GG I (lh.val / 2))
def slots (lh : Fin 6) : sProp 𝕄 := PB fun m => rPts c (slotSet (lh.val % 2) (px c m)) (RR I (lh.val / 2) c)
/-- The own chunk while its copies are under way, with what its layer has closed. -/
def OW (lh : Fin 6) : sProp 𝕄 := iprop(gLeaf c I lh ∗ gRight c I lh ∗ wT c 2 lh ∗ sV c 0 lh ∗ sV c 1 lh ∗ sV c 3 lh)
def Done (lh : Fin 6) : sProp 𝕄 := iprop(sV c 0 lh ∗ sV c 1 lh ∗ sV c 2 lh ∗ sV c 3 lh)
/-- The slots as the gather leaves them to their device: none before the last layer. -/
def Sl (lh : Fin 6) : sProp 𝕄 := if lh.val < 4 then iprop(emp) else slots c I lh
def RS (lh : Fin 6) : sProp 𝕄 := if lh.val < 4 then rR c (lh.val % 2) else slots c I lh

def TA (lh : Fin 6) (O Y : sProp 𝕄) : sProp 𝕄 := iprop(gP c (lh.val % 2) ∗ rR c (lh.val % 2) ∗ U c lh ∗ O ∗ Y)
def TA1 (lh : Fin 6) (O Y : sProp 𝕄) : sProp 𝕄 := iprop(tokA c lh ∗ aT c 0 lh ∗ aT c 2 lh ∗ wT c 1 lh ∗ wT c 3 lh ∗ O ∗ Y)
def TB (lh : Fin 6) (O Y : sProp 𝕄) : sProp 𝕄 := iprop(tokA c lh ∗ wT c 0 lh ∗ aT c 2 lh ∗ wT c 1 lh ∗ wT c 3 lh ∗ O ∗ Y)
def TB1 (lh : Fin 6) (O Y : sProp 𝕄) : sProp 𝕄 := iprop(tokA c lh ∗ wT c 0 lh ∗ aT c 2 lh ∗ wT c 3 lh ∗ O ∗ Y)
def TB2 (lh : Fin 6) (Y : sProp 𝕄) : sProp 𝕄 := iprop(PB (wGot I c 1 lh) ∗ tokA c lh ∗ wT c 0 lh ∗ aT c 2 lh ∗ wT c 3 lh ∗ hOwn c I lh ∗ Y)
def TBw (lh lh' : Fin 6) (Y : sProp 𝕄) : sProp 𝕄 := iprop(gRight c I lh' ∗ sV c 0 lh' ∗ sV c 1 lh' ∗ sV c 3 lh' ∗ TB2 c I lh Y)
def TG (lh : Fin 6) (Y : sProp 𝕄) : sProp 𝕄 := iprop(gRight c I lh ∗ sV c 1 lh ∗ wT c 0 lh ∗ aT c 2 lh ∗ wT c 3 lh ∗ hOwn c I lh ∗ Sl c I lh ∗ Y)
def TC (lh : Fin 6) (Y : sProp 𝕄) : sProp 𝕄 := iprop(gRight c I lh ∗ sV c 1 lh ∗ wT c 0 lh ∗ wT c 2 lh ∗ wT c 3 lh ∗ hOwn c I lh ∗ Sl c I lh ∗ Y)
def TC1 (lh : Fin 6) (Y : sProp 𝕄) : sProp 𝕄 := iprop(gRight c I lh ∗ sV c 1 lh ∗ wT c 0 lh ∗ wT c 2 lh ∗ hOwn c I lh ∗ Sl c I lh ∗ Y)
def TC2 (lh : Fin 6) (Y : sProp 𝕄) : sProp 𝕄 := iprop(gLeaf c I lh ∗ gPL c I lh ∗ sV c 1 lh ∗ sV c 3 lh ∗ wT c 0 lh ∗ wT c 2 lh ∗ hOwn c I lh ∗ RS c I lh ∗ Y)
def TD (lh : Fin 6) (Y : sProp 𝕄) : sProp 𝕄 := iprop(gLeaf c I lh ∗ gPL c I lh ∗ sV c 1 lh ∗ sV c 3 lh ∗ wT c 2 lh ∗ hOwn c I lh ∗ RS c I lh ∗ Y)
def TE (lh : Fin 6) (Y : sProp 𝕄) : sProp 𝕄 := iprop(OW c I lh ∗ gPK c I lh ∗ slots c I lh ∗ Y)
def TE1 (lh : Fin 6) (Y : sProp 𝕄) : sProp 𝕄 := iprop(gLeaf c I lh ∗ gRight c I lh ∗ sV c 0 lh ∗ sV c 1 lh ∗ sV c 3 lh ∗ gPK c I lh ∗ slots c I lh ∗ Y)
def TF (lh : Fin 6) (Y : sProp 𝕄) : sProp 𝕄 := iprop(gPts c (halfSet (lh.val % 2)) fullShare (GG I (lh.val / 2)) ∗ slots c I lh ∗ Done c lh ∗ Y)
end Defs

/-! ## The passages -/

section Moves
variable (I : Inp F) (K : Dev nD × Fin 193 → ℕ) {c : Dev nD} {ws : List Code}

theorem st_tr {A B X T Z A' B' X' T' : sProp 𝕄} (h : iprop(A ∗ B ∗ X ∗ T) ⊢ iprop(A' ∗ B' ∗ X' ∗ T')) :
    ST I K c ws A B iprop(X ∗ T ∗ Z) ⊢ ST I K c ws A' B' iprop(X' ∗ T' ∗ Z) := by
  unfold ST
  iintro ⟨HK, Hi, Ho, HA, HB, HX, HT, HZ⟩
  ihave H := h $$ [HA HB HX HT]
  · iframe HA HB HX HT
  icases H with ⟨HA, HB, HX, HT⟩
  iframe HK Hi Ho HA HB HX HT HZ
theorem st_swap {A B X T Y V Z : sProp 𝕄} : ST I K c ws A B iprop(X ∗ T ∗ Y ∗ V ∗ Z) ⊢ ST I K c ws A B iprop(Y ∗ V ∗ X ∗ T ∗ Z) := by
  unfold ST
  iintro ⟨HK, Hi, Ho, HA, HB, HX, HT, HY, HV, HZ⟩
  iframe HK Hi Ho HA HB HX HT HY HV HZ

variable (c) (lh : Fin 6)

theorem nil_eq (Φ : Fin 8 → sProp 𝕄) : bigSepL [] Φ = iprop(emp) := bigSepL_nil Φ

theorem enterA (Φ Ψ : Fin 8 → sProp 𝕄) (O Y : sProp 𝕄) :
    iprop(bigSepL [] Φ ∗ bigSepL [] Ψ ∗ hPts c (halfSet (lh.val % 2)) (HH I (lh.val / 2) c) ∗ TA c lh O Y)
      ⊢ iprop(bigSepL desc (rsTodo I c lh) ∗ bigSepL [] (crd c 0 lh) ∗ hOwn c I lh ∗ TA1 c lh O Y) := by
  have e : bigSepL desc (rsTodo I c lh) = iprop(PB (fun m => hPts c (chunkSet (lh.val % 2) (pos (px c m))) (HH I (lh.val / 2) c)) ∗ rR c (lh.val % 2) ∗ gP c (lh.val % 2) ∗ tokR c lh) := by
    unfold rR gP tokR
    rw [← pb_sep, ← pb_sep, ← pb_sep, ← pb_desc]
    rfl
  rw [e, h_half, nil_eq, nil_eq, nil_eq]
  unfold TA TA1 U hOwn
  iintro ⟨-, -, ⟨H0, H1⟩, Hg, Hr, ⟨Ht, Ha, Hb, Hc, Hd, He⟩, HO, HY⟩
  iframe H0 H1 Hg Hr Ht Ha Hb Hc Hd He HO HY

theorem wT_eq (k : Fin 4) : wT c k lh = iprop(PB (F := F) (crd c k lh) ∗ aT c k lh) := by
  unfold wT aT
  rw [← pb_sep]
  rfl

theorem exitA (Φ : Fin 8 → sProp 𝕄) (O Y : sProp 𝕄) :
    iprop(bigSepL [] Φ ∗ bigSepL descR (crd c 0 lh) ∗ hOwn c I lh ∗ TA1 c lh O Y)
      ⊢ iprop(bigSepL [] Φ ∗ bigSepL [] Φ ∗ hOwn c I lh ∗ TB c lh O Y) := by
  rw [← pb_descR, nil_eq]
  unfold TA1 TB
  rw [wT_eq c lh 0]
  iintro ⟨-, Hc, Ho, Ht, Ha, Hb, Hd, He, HO, HY⟩
  iframe Hc Ho Ht Ha Hb Hd He HO HY

theorem enterB (Φ Ψ : Fin 8 → sProp 𝕄) (O Y : sProp 𝕄) :
    iprop(bigSepL [] Φ ∗ bigSepL [] Ψ ∗ hOwn c I lh ∗ TB c lh O Y)
      ⊢ iprop(bigSepL asc (wTodo c 1 lh) ∗ bigSepL [] (wGot I c 1 lh) ∗ hOwn c I lh ∗ TB1 c lh O Y) := by
  rw [← pb_asc, nil_eq, nil_eq, nil_eq]
  unfold TB TB1 wT
  iintro ⟨-, -, Ho, Ht, Ha, Hb, Hd, He, HO, HY⟩
  iframe Ho Ht Ha Hb Hd He HO HY

theorem exitB0 (Φ : Fin 8 → sProp 𝕄) (Y : sProp 𝕄) :
    iprop(bigSepL [] Φ ∗ bigSepL ascR (wGot I c 1 lh) ∗ hOwn c I lh ∗ TB1 c lh (gOwn c (lh.val % 2)) Y)
      ⊢ iprop(bigSepL [] Φ ∗ bigSepL [] Φ ∗ (∃ f, gPts c (chunkSet (lh.val % 2) (pos c)) fullShare f) ∗ TB2 c I lh Y) := by
  rw [← pb_ascR, nil_eq]
  unfold TB1 TB2 gOwn
  iintro ⟨-, Hc, Ho, Ht, Ha, Hb, He, HO, HY⟩
  iframe Hc Ho Ht Ha Hb He HO HY

theorem exitB1 (lh' : Fin 6) (Φ : Fin 8 → sProp 𝕄) (Y : sProp 𝕄) :
    iprop(bigSepL [] Φ ∗ bigSepL ascR (wGot I c 1 lh) ∗ hOwn c I lh ∗ TB1 c lh (OW c I lh') Y)
      ⊢ iprop(bigSepL asc (wTodo c 2 lh') ∗ bigSepL [] (wGot I c 2 lh') ∗ gLeaf c I lh' ∗ TBw c I lh lh' Y) := by
  rw [← pb_ascR, ← pb_asc, nil_eq, nil_eq]
  unfold TB1 TBw TB2 OW wT
  iintro ⟨-, Hc, Ho, Ht, Ha, Hb, He, ⟨Hl, Hr, Hw, H0, H1, H3⟩, HY⟩
  iframe Hc Ho Ht Ha Hb He Hl Hr Hw H0 H1 H3 HY

/-- The own chunk whole again once its copies are waited for. -/
theorem own_back (lh : Fin 6) :
    iprop(bigSepL ascR (wGot I c 2 lh) ∗ gLeaf c I lh ∗ gRight c I lh) ⊢ iprop(gPts c (chunkSet (lh.val % 2) (pos c)) fullShare (GG I (lh.val / 2)) ∗ sV c 2 lh) := by
  have e : PB (wGot I c 2 lh) = iprop(PB (fun m => gPts c (chunkSet (lh.val % 2) (pos c)) (ShareLeaves.leaf 3 fullShare.left m) (GG I (lh.val / 2))) ∗ sV c 2 lh) := by
    unfold sV
    rw [← pb_sep]
    refine pb_congr fun m => ?_
    show iprop(gPts c (chunkSet (lh.val % 2) (pos c)) (ShareLeaves.leaf 3 fullShare.left (mk c (px c m))) (GG I (lh.val / 2)) ∗ _) = _
    rw [mk_px]
  rw [← pb_ascR, e, g_leaves]
  unfold gLeaf gRight
  iintro ⟨⟨H, Hs⟩, Hl, Hr⟩
  iframe H Hs Hl Hr

theorem exitB2 (lh' : Fin 6) (he : lh'.val % 2 = lh.val % 2) (Φ : Fin 8 → sProp 𝕄) (Y : sProp 𝕄) :
    iprop(bigSepL [] Φ ∗ bigSepL ascR (wGot I c 2 lh') ∗ gLeaf c I lh' ∗ TBw c I lh lh' Y)
      ⊢ iprop(bigSepL [] Φ ∗ bigSepL [] Φ ∗ (∃ f, gPts c (chunkSet (lh.val % 2) (pos c)) fullShare f) ∗ TB2 c I lh iprop(Y ∗ Done c lh')) := by
  rw [nil_eq]
  unfold TBw TB2 Done
  iintro ⟨-, Hw, Hl, Hr, H0, H1, H3, Hc, Ht, Ha, Hb, He, Ho, HY⟩
  ihave H := (own_back I c lh') $$ [Hw Hl Hr]
  · iframe Hw Hl Hr
  icases H with ⟨Hg, H2⟩
  rw [he]
  isplitr; · iempintro
  isplitr; · iempintro
  isplitl [Hg]; · iexists _; iexact Hg
  iframe Hc Ht Ha Hb He Ho HY H0 H1 H2 H3

theorem enterG (Φ Ψ : Fin 8 → sProp 𝕄) (Y : sProp 𝕄) :
    iprop(bigSepL [] Φ ∗ bigSepL [] Ψ ∗ gPts c (chunkSet (lh.val % 2) (pos c)) fullShare (GG I (lh.val / 2)) ∗ TB2 c I lh Y)
      ⊢ iprop(bigSepL desc (agTodo I c lh) ∗ bigSepL [] (crd c 2 lh) ∗ gLeaf c I lh ∗ TG c I lh Y) := by
  have e : bigSepL desc (agTodo I c lh) = iprop(PB (fun m => gPts c (chunkSet (lh.val % 2) (pos c)) (ShareLeaves.leaf 3 fullShare.left m) (GG I (lh.val / 2)))
      ∗ PB (fun m => iprop(∃ f, gPts (px c m) (chunkSet (lh.val % 2) (pos c)) fullShare f))
      ∗ PB (fun m => if lh.val < 4 then iprop(∃ f, rPts c (slotSet (lh.val % 2) (px c m)) f) else iprop(emp)) ∗ tokA c lh) := by
    unfold tokA
    rw [← pb_sep, ← pb_sep, ← pb_sep, ← pb_desc]
    rfl
  have e' : PB (wGot I c 1 lh) = iprop((slots c I lh ∗ PB (fun m => iprop(∃ f, gPts (px c m) (chunkSet (lh.val % 2) (pos c)) fullShare f))) ∗ sV c 1 lh) := by
    unfold slots sV
    rw [← pb_sep, ← pb_sep]
    rfl
  have e'' : slots c I lh ⊢ iprop(PB (fun m => if lh.val < 4 then iprop(∃ f, rPts c (slotSet (lh.val % 2) (px c m)) f) else iprop(emp)) ∗ Sl c I lh) := by
    unfold Sl
    split
    · iintro H
      isplitl [H]
      · iapply (show slots c I lh ⊢ PB (fun m => iprop(∃ f, rPts c (slotSet (lh.val % 2) (px c m)) f)) from by
          unfold slots; exact pb_mono fun m => by iintro H; iexists _; iexact H) $$ H
      iempintro
    · iintro H
      isplitr [H]
      · iapply (pb_emp (F := F))
        iempintro
      iexact H
  rw [e, g_leaves, nil_eq, nil_eq, nil_eq]
  unfold TB2 TG gLeaf gRight
  rw [e']
  iintro ⟨-, -, ⟨Hl, Hr, Hs⟩, ⟨⟨Hsl, Hgs⟩, Hz⟩, Ht, Ha, Hb, Hc, Ho, HY⟩
  ihave H := e'' $$ Hsl
  icases H with ⟨Hx, HS⟩
  iframe Hl Hr Hs Hgs Hz Ht Ha Hb Hc Ho HY Hx HS

theorem exitG (Φ : Fin 8 → sProp 𝕄) (Y : sProp 𝕄) :
    iprop(bigSepL [] Φ ∗ bigSepL descR (crd c 2 lh) ∗ gLeaf c I lh ∗ TG c I lh Y)
      ⊢ iprop(bigSepL [] Φ ∗ bigSepL [] Φ ∗ gLeaf c I lh ∗ TC c I lh Y) := by
  rw [← pb_descR, nil_eq]
  unfold TG TC
  rw [wT_eq c lh 2]
  iintro ⟨-, Hc, Hl, Hr, H1, H0, H2, H3, Ho, HS, HY⟩
  iframe Hc Hl Hr H1 H0 H2 H3 Ho HS HY

theorem enterC (Φ Ψ : Fin 8 → sProp 𝕄) (Y : sProp 𝕄) :
    iprop(bigSepL [] Φ ∗ bigSepL [] Ψ ∗ gLeaf c I lh ∗ TC c I lh Y)
      ⊢ iprop(bigSepL asc (wTodo c 3 lh) ∗ bigSepL [] (wGot I c 3 lh) ∗ gLeaf c I lh ∗ TC1 c I lh Y) := by
  rw [← pb_asc, nil_eq, nil_eq, nil_eq]
  unfold TC TC1 wT
  iintro ⟨-, -, Hl, Hr, H1, H0, H2, H3, Ho, HS, HY⟩
  iframe Hl Hr H1 H0 H2 H3 Ho HS HY

theorem exitC (Φ : Fin 8 → sProp 𝕄) (Y : sProp 𝕄) :
    iprop(bigSepL [] Φ ∗ bigSepL ascR (wGot I c 3 lh) ∗ gLeaf c I lh ∗ TC1 c I lh Y)
      ⊢ iprop(bigSepL [] Φ ∗ bigSepL [] Φ ∗ gPts c (halfSet (lh.val % 2)) fullShare.right (GG I (lh.val / 2)) ∗ TC2 c I lh Y) := by
  have e : PB (wGot I c 3 lh) = iprop(((gPL c I lh ∗ PB (fun m => gPts c (chunkSet (lh.val % 2) (pos (px c m))) fullShare.right (GG I (lh.val / 2))))
      ∗ PB (fun m => if lh.val < 4 then iprop(∃ f, rPts (px c m) (slotSet (lh.val % 2) c) f) else iprop(emp))) ∗ sV c 3 lh) := by
    unfold gPL sV
    rw [← pb_sep, ← pb_sep, ← pb_sep]
    refine pb_congr fun m => ?_
    rw [← g_lr]
    rfl
  have e' : iprop(PB (fun m => if lh.val < 4 then iprop(∃ f, rPts (px c m) (slotSet (lh.val % 2) c) f) else iprop(emp)) ∗ Sl c I lh) ⊢ RS c I lh := by
    unfold Sl RS rR
    split
    · iintro ⟨H, -⟩; iexact H
    · iintro ⟨-, H⟩; iexact H
  rw [← pb_ascR, e, g_half, nil_eq]
  unfold TC1 TC2 gRight
  iintro ⟨-, ⟨⟨⟨HL, HR⟩, Hx⟩, H3⟩, Hl, Hr, H1, H0, H2, Ho, HS, HY⟩
  ihave HRS := e' $$ [Hx HS]
  · iframe Hx HS
  iframe HL HR H3 Hl Hr H1 H0 H2 Ho HRS HY

theorem enterD (Φ Ψ : Fin 8 → sProp 𝕄) (Y : sProp 𝕄) :
    iprop(bigSepL [] Φ ∗ bigSepL [] Ψ ∗ gPts c (halfSet (lh.val % 2)) fullShare.right (GG I (lh.val / 2)) ∗ TC2 c I lh Y)
      ⊢ iprop(bigSepL asc (wTodo c 0 lh) ∗ bigSepL [] (wGot I c 0 lh) ∗ gPts c (halfSet (lh.val % 2)) fullShare.right (GG I (lh.val / 2)) ∗ TD c I lh Y) := by
  rw [← pb_asc, nil_eq, nil_eq, nil_eq]
  unfold TC2 TD wT
  iintro ⟨-, -, Hg, Hl, Hr, H1, H3, H0, H2, Ho, HS, HY⟩
  iframe Hg Hl Hr H1 H0 H2 H3 Ho HS HY

/-- What a half has after its layer's last wait. -/
theorem exitD (Φ : Fin 8 → sProp 𝕄) (Y : sProp 𝕄) :
    iprop(bigSepL [] Φ ∗ bigSepL ascR (wGot I c 0 lh) ∗ gPts c (halfSet (lh.val % 2)) fullShare.right (GG I (lh.val / 2)) ∗ TD c I lh Y)
      ⊢ iprop(bigSepL [] Φ ∗ bigSepL [] Φ ∗ hPts c (halfSet (lh.val % 2)) (HH I (lh.val / 2) c) ∗ OW c I lh ∗ gPK c I lh ∗ RS c I lh ∗ Y) := by
  have e : PB (wGot I c 0 lh) = iprop(PB (fun m => hPts c (chunkSet (lh.val % 2) (pos (px c m))) (HH I (lh.val / 2) c)) ∗ sV c 0 lh) := by
    unfold sV
    rw [← pb_sep]
    rfl
  have e' : iprop(gPL c I lh ∗ PB (fun m => gPts c (chunkSet (lh.val % 2) (pos (px c m))) fullShare.right (GG I (lh.val / 2)))) = gPK c I lh := by
    unfold gPL gPK
    rw [← pb_sep]
    exact pb_congr fun m => (g_lr _ _ _).symm
  rw [← pb_ascR, e, g_half, h_half, nil_eq, ← e']
  unfold TD OW gRight hOwn
  iintro ⟨-, ⟨Hh, H0⟩, ⟨Hr, HR⟩, Hl, HL, H1, H3, H2, Ho, HS, HY⟩
  iframe HL HR H3 Hl Hr H1 H0 H2 Ho HS HY Hh

theorem exitDn (lh' : Fin 6) (he : lh'.val % 2 = lh.val % 2) (hl : lh.val < 4) (Φ : Fin 8 → sProp 𝕄) (Y Y' : sProp 𝕄) (hY : Y ⊢ iprop(U c lh' ∗ Y')) :
    iprop(bigSepL [] Φ ∗ bigSepL ascR (wGot I c 0 lh) ∗ gPts c (halfSet (lh.val % 2)) fullShare.right (GG I (lh.val / 2)) ∗ TD c I lh Y)
      ⊢ iprop(bigSepL [] Φ ∗ bigSepL [] Φ ∗ (∃ f, hPts c (halfSet (lh'.val % 2)) f) ∗ TA c lh' (OW c I lh) Y') := by
  refine (exitD I c lh Φ Y).trans ?_
  have e : gPK c I lh ⊢ gP c (lh.val % 2) := by
    unfold gPK gP
    exact pb_mono fun m => by iintro H; iexists _; iexact H
  unfold TA RS
  rw [if_pos hl, he, nil_eq]
  iintro ⟨-, -, Hh, HO, Hg, HR, HY⟩
  ihave HY := hY $$ HY
  icases HY with ⟨HU, HY⟩
  ihave Hg := e $$ Hg
  isplitr; · iempintro
  isplitr; · iempintro
  isplitl [Hh]; · iexists _; iexact Hh
  iframe HO Hg HR HU HY

theorem exitDl (hl : ¬lh.val < 4) (Φ : Fin 8 → sProp 𝕄) (Y : sProp 𝕄) :
    iprop(bigSepL [] Φ ∗ bigSepL ascR (wGot I c 0 lh) ∗ gPts c (halfSet (lh.val % 2)) fullShare.right (GG I (lh.val / 2)) ∗ TD c I lh Y)
      ⊢ iprop(bigSepL [] Φ ∗ bigSepL [] Φ ∗ hPts c (halfSet (lh.val % 2)) (HH I (lh.val / 2) c) ∗ TE c I lh Y) := by
  refine (exitD I c lh Φ Y).trans ?_
  unfold TE RS
  rw [if_neg hl]

theorem enterE (Φ Ψ : Fin 8 → sProp 𝕄) (Y : sProp 𝕄) :
    iprop(bigSepL [] Φ ∗ bigSepL [] Ψ ∗ hPts c (halfSet (lh.val % 2)) (HH I (lh.val / 2) c) ∗ TE c I lh Y)
      ⊢ iprop(bigSepL asc (wTodo c 2 lh) ∗ bigSepL [] (wGot I c 2 lh) ∗ hPts c (halfSet (lh.val % 2)) (HH I (lh.val / 2) c) ∗ TE1 c I lh Y) := by
  rw [← pb_asc, nil_eq, nil_eq, nil_eq]
  unfold TE TE1 OW wT
  iintro ⟨-, -, Hh, ⟨Hl, Hr, Hw, H0, H1, H3⟩, Hg, HS, HY⟩
  iframe Hh Hl Hr Hw H0 H1 H3 Hg HS HY

theorem exitE (Φ : Fin 8 → sProp 𝕄) (Y : sProp 𝕄) :
    iprop(bigSepL [] Φ ∗ bigSepL ascR (wGot I c 2 lh) ∗ hPts c (halfSet (lh.val % 2)) (HH I (lh.val / 2) c) ∗ TE1 c I lh Y)
      ⊢ iprop(bigSepL [] Φ ∗ bigSepL [] Φ ∗ hPts c (halfSet (lh.val % 2)) (HH I (lh.val / 2) c) ∗ TF c I lh Y) := by
  rw [nil_eq]
  unfold TE1 TF Done gPK
  iintro ⟨-, Hw, Hh, Hl, Hr, H0, H1, H3, Hg, HS, HY⟩
  ihave H := (own_back I c lh) $$ [Hw Hl Hr]
  · iframe Hw Hl Hr
  icases H with ⟨Ho, H2⟩
  rw [g_half]
  iframe Ho H2 Hh H0 H1 H3 Hg HS HY

end Moves

end Cert.KProof
-- ==== Proof.Ops.lean ====
/-
  The body's operations in the words the program uses: the offsets, the semaphores and the devices it computes, found to be those that the steps are told in.
-/
module

public import proofs.«01_k».proof.Proof.Stages

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## The dues, stage by stage -/

abbrev rsL (lh : Fin 6) (ws : List Code) : List Code := .rs lh 6 :: .rs lh 2 :: .rs lh 5 :: .rs lh 7 :: .rs lh 1 :: .rs lh 3 :: .rs lh 4 :: ws
abbrev agL (lh : Fin 6) (ws : List Code) : List Code := .ag lh 6 :: .ag lh 2 :: .ag lh 5 :: .ag lh 7 :: .ag lh 1 :: .ag lh 3 :: .ag lh 4 :: ws
abbrev dues2 : List Code := rsL 4 (rsL 5 (agL 4 (agL 5 [])))
abbrev dues1 : List Code := rsL 2 (rsL 3 (agL 2 (agL 3 dues2)))
abbrev dues0 : List Code := rsL 0 (rsL 1 (agL 0 (agL 1 dues1)))
abbrev duesB : List Code := .bar 1 :: .bar 3 :: .bar 4 :: .bar 2 :: .bar 5 :: .bar 7 :: .bar 6 :: dues0

section Ops
variable (I : Inp F) (K : Dev nD × Fin 193 → ℕ) {c : Dev nD} {α : Type} {ws : List Code} {l l' : List (Fin 8)}

abbrev perM (b : ℕ) (h : b + S48.numel ≤ 200) (off : Fin 1 → ℕ) (i : ∀ a, off a + S1.size a ≤ S48.size a) : DmaSem sig :=
  (((SemArray.consecutive b S48 h : DmaSems sig S48).slice (Rect.unit (s := S48) off S1.size i)).squeeze S_ squeezes_S1_S_).sem

theorem rs0 {Q : α → sProp 𝕄} {R : sProp 𝕄} (lh : Fin 6) {m : Fin 8} {n : Dev nD} {offs inbs hs sq offd inbd hd sqd} {b₁ h₁ o₁ i₁ b₂ h₂ o₂ i₂}
    {hsc : (slM offd inbd (hs := hd) sqd : Memref sig (Dev.tc n : Thread nD τ).2.kind .vmem S64x256 .bf16).view.ref.isScScratch = false}
    {hsrc hdst} {hsem : DmaTarget.Typed .vmem (.dma (perM b₂ h₂ o₂ i₂)) (.remote (Dev.tc n : Thread nD τ) (slM offd inbd (hs := hd) sqd) (.dma (perM b₁ h₁ o₁ i₁)) hsc)} {k : PUnit → Prog (TpuEff nD τ sig (Elt F) Λ₀ .tc) α}
    (h : ST I K c ws (bigSepL l (rsTodo I c lh)) (bigSepL (m :: l') (crd c 0 lh)) R ⊢ WP c (k ⟨⟩) Q)
    (hl : lh.val % 2 = 0 := by rfl) (hm : m ≠ 0 := by decide) (hn : n.val = pxN c m := by rfl) (es : offs = k0_off4 c (lw m) := by rfl) (ed : offd = k0_off3 c := by rfl)
    (e1 : o₁ = k0_off1 c (bw lh) (mw m) := by rfl) (e2 : o₂ = k0_off2 c (bw lh) := by rfl) (e3 : b₁ = 8 + 48 * 0 := by rfl) (e4 : b₂ = 8 + 48 * 1 := by rfl) :
    ST I K c (.rs lh m :: ws) (bigSepL (m :: l) (rsTodo I c lh)) (bigSepL l' (crd c 0 lh)) R
      ⊢ WP c (Prog.lift (.enqueueDma (chM hM offs inbs (hs := hs) sq) (.remote (Dev.tc n : Thread nD τ) (slM offd inbd (hs := hd) sqd) (.dma (perM b₁ h₁ o₁ i₁)) hsc) (.dma (perM b₂ h₂ o₂ i₂)) hsrc hdst hsem) >>= k) Q := by
  subst e1 e2
  exact step_rs I K lh (px_ne c hm) (Fin.ext (hn.trans (pxN_eq c m))) (by rw [hl, es, off4_eq]) (by rw [hl, ed, off3_eq]) (sem_peer 0 e3 c lh m) (sem_own 1 e4 c lh) h
theorem rs1 {Q : α → sProp 𝕄} {R : sProp 𝕄} (lh : Fin 6) {m : Fin 8} {n : Dev nD} {offs inbs hs sq offd inbd hd sqd} {b₁ h₁ o₁ i₁ b₂ h₂ o₂ i₂}
    {hsc : (slM offd inbd (hs := hd) sqd : Memref sig (Dev.tc n : Thread nD τ).2.kind .vmem S64x256 .bf16).view.ref.isScScratch = false}
    {hsrc hdst} {hsem : DmaTarget.Typed .vmem (.dma (perM b₂ h₂ o₂ i₂)) (.remote (Dev.tc n : Thread nD τ) (slM offd inbd (hs := hd) sqd) (.dma (perM b₁ h₁ o₁ i₁)) hsc)} {k : PUnit → Prog (TpuEff nD τ sig (Elt F) Λ₀ .tc) α}
    (h : ST I K c ws (bigSepL l (rsTodo I c lh)) (bigSepL (m :: l') (crd c 0 lh)) R ⊢ WP c (k ⟨⟩) Q)
    (hl : lh.val % 2 = 1 := by rfl) (hm : m ≠ 0 := by decide) (hn : n.val = pxN c m := by rfl) (es : offs = k0_off6 c (lw m) := by rfl) (ed : offd = k0_off5 c := by rfl)
    (e1 : o₁ = k0_off1 c (bw lh) (mw m) := by rfl) (e2 : o₂ = k0_off2 c (bw lh) := by rfl) (e3 : b₁ = 8 + 48 * 0 := by rfl) (e4 : b₂ = 8 + 48 * 1 := by rfl) :
    ST I K c (.rs lh m :: ws) (bigSepL (m :: l) (rsTodo I c lh)) (bigSepL l' (crd c 0 lh)) R
      ⊢ WP c (Prog.lift (.enqueueDma (chM hM offs inbs (hs := hs) sq) (.remote (Dev.tc n : Thread nD τ) (slM offd inbd (hs := hd) sqd) (.dma (perM b₁ h₁ o₁ i₁)) hsc) (.dma (perM b₂ h₂ o₂ i₂)) hsrc hdst hsem) >>= k) Q := by
  subst e1 e2
  exact step_rs I K lh (px_ne c hm) (Fin.ext (hn.trans (pxN_eq c m))) (by rw [hl, es, off6_eq]) (by rw [hl, ed, off5_eq]) (sem_peer 0 e3 c lh m) (sem_own 1 e4 c lh) h
theorem ag0 {Q : α → sProp 𝕄} {R : sProp 𝕄} (lh : Fin 6) {m : Fin 8} {n : Dev nD} {offs inbs hs sq offd inbd hd sqd} {b₁ h₁ o₁ i₁ b₂ h₂ o₂ i₂}
    {hsc : (chM gM offd inbd (hs := hd) sqd : Memref sig (Dev.tc n : Thread nD τ).2.kind .vmem S64x256 .bf16).view.ref.isScScratch = false}
    {hsrc hdst} {hsem : DmaTarget.Typed .vmem (.dma (perM b₂ h₂ o₂ i₂)) (.remote (Dev.tc n : Thread nD τ) (chM gM offd inbd (hs := hd) sqd) (.dma (perM b₁ h₁ o₁ i₁)) hsc)} {k : PUnit → Prog (TpuEff nD τ sig (Elt F) Λ₀ .tc) α}
    (h : ST I K c ws (bigSepL l (agTodo I c lh)) (bigSepL (m :: l') (crd c 2 lh)) R ⊢ WP c (k ⟨⟩) Q)
    (hl : lh.val % 2 = 0 := by rfl) (hm : m ≠ 0 := by decide) (hn : n.val = pxN c m := by rfl) (es : offs = k0_off10 c := by rfl) (ed : offd = k0_off10 c := by rfl)
    (e1 : o₁ = k0_off1 c (bw lh) (mw m) := by rfl) (e2 : o₂ = k0_off2 c (bw lh) := by rfl) (e3 : b₁ = 8 + 48 * 2 := by rfl) (e4 : b₂ = 8 + 48 * 3 := by rfl) :
    ST I K c (.ag lh m :: ws) (bigSepL (m :: l) (agTodo I c lh)) (bigSepL l' (crd c 2 lh)) R
      ⊢ WP c (Prog.lift (.enqueueDma (chM gM offs inbs (hs := hs) sq) (.remote (Dev.tc n : Thread nD τ) (chM gM offd inbd (hs := hd) sqd) (.dma (perM b₁ h₁ o₁ i₁)) hsc) (.dma (perM b₂ h₂ o₂ i₂)) hsrc hdst hsem) >>= k) Q := by
  subst e1 e2
  exact step_ag I K lh (px_ne c hm) (Fin.ext (hn.trans (pxN_eq c m))) (by rw [hl, es, off10_eq]) (by rw [hl, ed, off10_eq]) (sem_peer 2 e3 c lh m) (sem_own 3 e4 c lh) h
theorem ag1 {Q : α → sProp 𝕄} {R : sProp 𝕄} (lh : Fin 6) {m : Fin 8} {n : Dev nD} {offs inbs hs sq offd inbd hd sqd} {b₁ h₁ o₁ i₁ b₂ h₂ o₂ i₂}
    {hsc : (chM gM offd inbd (hs := hd) sqd : Memref sig (Dev.tc n : Thread nD τ).2.kind .vmem S64x256 .bf16).view.ref.isScScratch = false}
    {hsrc hdst} {hsem : DmaTarget.Typed .vmem (.dma (perM b₂ h₂ o₂ i₂)) (.remote (Dev.tc n : Thread nD τ) (chM gM offd inbd (hs := hd) sqd) (.dma (perM b₁ h₁ o₁ i₁)) hsc)} {k : PUnit → Prog (TpuEff nD τ sig (Elt F) Λ₀ .tc) α}
    (h : ST I K c ws (bigSepL l (agTodo I c lh)) (bigSepL (m :: l') (crd c 2 lh)) R ⊢ WP c (k ⟨⟩) Q)
    (hl : lh.val % 2 = 1 := by rfl) (hm : m ≠ 0 := by decide) (hn : n.val = pxN c m := by rfl) (es : offs = k0_off14 c := by rfl) (ed : offd = k0_off14 c := by rfl)
    (e1 : o₁ = k0_off1 c (bw lh) (mw m) := by rfl) (e2 : o₂ = k0_off2 c (bw lh) := by rfl) (e3 : b₁ = 8 + 48 * 2 := by rfl) (e4 : b₂ = 8 + 48 * 3 := by rfl) :
    ST I K c (.ag lh m :: ws) (bigSepL (m :: l) (agTodo I c lh)) (bigSepL l' (crd c 2 lh)) R
      ⊢ WP c (Prog.lift (.enqueueDma (chM gM offs inbs (hs := hs) sq) (.remote (Dev.tc n : Thread nD τ) (chM gM offd inbd (hs := hd) sqd) (.dma (perM b₁ h₁ o₁ i₁)) hsc) (.dma (perM b₂ h₂ o₂ i₂)) hsrc hdst hsem) >>= k) Q := by
  subst e1 e2
  exact step_ag I K lh (px_ne c hm) (Fin.ext (hn.trans (pxN_eq c m))) (by rw [hl, es, off14_eq]) (by rw [hl, ed, off14_eq]) (sem_peer 2 e3 c lh m) (sem_own 3 e4 c lh) h
theorem slot0 {Q : α → sProp 𝕄} {A R : sProp 𝕄} (r : Fin 7) {lh : Fin 6} {m : Fin 8} {off : Fin 4 → ℕ} {inb : ∀ a, off a + S1x1x64x256.size a ≤ S2x8x64x256.size a} {hl}
    {k : Vec F S1x1x64x256 .bf16 → Prog (TpuEff nD τ sig (Elt F) Λ₀ .tc) α}
    (h : ST I K c ws A (bigSepL (m :: l') (wGot I c 1 lh)) R ⊢ WP c (k (slotAt 0 c r (RR I (lh.val / 2) c))) Q)
    (e : off = k0_off9 c (BitVec.ofNat 32 (1 + r.val)) := by rfl) (hr : BitVec.ofNat 32 (1 + r.val) = mw m := by rfl) (hlh : lh.val % 2 = 0 := by rfl) :
    ST I K c ws A (bigSepL (m :: l') (wGot I c 1 lh)) R ⊢ WP c (Prog.lift (.load rM (Rect.unit (s := S2x8x64x256) off S1x1x64x256.size inb).toLoadRect hl) >>= k) Q := by
  subst e
  exact load_slot I K (by rw [hr, off9_eq, hlh]) rfl h
theorem slot1 {Q : α → sProp 𝕄} {A R : sProp 𝕄} (r : Fin 7) {lh : Fin 6} {m : Fin 8} {off : Fin 4 → ℕ} {inb : ∀ a, off a + S1x1x64x256.size a ≤ S2x8x64x256.size a} {hl}
    {k : Vec F S1x1x64x256 .bf16 → Prog (TpuEff nD τ sig (Elt F) Λ₀ .tc) α}
    (h : ST I K c ws A (bigSepL (m :: l') (wGot I c 1 lh)) R ⊢ WP c (k (slotAt 1 c r (RR I (lh.val / 2) c))) Q)
    (e : off = k0_off13 c (BitVec.ofNat 32 (1 + r.val)) := by rfl) (hr : BitVec.ofNat 32 (1 + r.val) = mw m := by rfl) (hlh : lh.val % 2 = 1 := by rfl) :
    ST I K c ws A (bigSepL (m :: l') (wGot I c 1 lh)) R ⊢ WP c (Prog.lift (.load rM (Rect.unit (s := S2x8x64x256) off S1x1x64x256.size inb).toLoadRect hl) >>= k) Q := by
  subst e
  exact load_slot I K (by rw [hr, off13_eq, hlh]) rfl h
theorem own0 {Q : α → sProp 𝕄} {A B R : sProp 𝕄} {lh : Fin 6} {off : Fin 3 → ℕ} {inb : ∀ a, off a + S1x64x256.size a ≤ S2x512x256.size a} {hl}
    {k : Vec F S1x64x256 .bf16 → Prog (TpuEff nD τ sig (Elt F) Λ₀ .tc) α}
    (h : ST I K c ws A B iprop(hOwn c I lh ∗ R) ⊢ WP c (k (ownAt 0 c (HH I (lh.val / 2) c))) Q)
    (e : off = k0_off7 c := by rfl) (hlh : lh.val % 2 = 0 := by rfl) :
    ST I K c ws A B iprop(hOwn c I lh ∗ R) ⊢ WP c (Prog.lift (.load hM (Rect.unit (s := S2x512x256) off S1x64x256.size inb).toLoadRect hl) >>= k) Q := by
  subst e
  unfold hOwn at *
  exact load_own I K (by rw [off7_eq, hlh]) rfl h
theorem dg0 {Q : α → sProp 𝕄} {A B R : sProp 𝕄} (lh : Fin 6) {off : Fin 3 → ℕ} {inb : ∀ a, off a + S1x64x256.size a ≤ S2x512x256.size a} {hl}
    {k : Vec F S1x64x256 .bf16 → Prog (TpuEff nD τ sig (Elt F) Λ₀ .tc) α}
    (h : ∀ v, ST I K c ws A B iprop((∃ f, gPts c (chunkSet (lh.val % 2) (pos c)) fullShare f) ∗ R) ⊢ WP c (k v) Q)
    (e : off = k0_off7 c := by rfl) (hlh : lh.val % 2 = 0 := by rfl) :
    ST I K c ws A B iprop((∃ f, gPts c (chunkSet (lh.val % 2) (pos c)) fullShare f) ∗ R) ⊢ WP c (Prog.lift (.load gM (Rect.unit (s := S2x512x256) off S1x64x256.size inb).toLoadRect hl) >>= k) Q := by
  subst e
  exact dead_g I K (by rw [off7_eq, hlh]) h
theorem sg0 {Q : α → sProp 𝕄} {A B R : sProp 𝕄} (lh : Fin 6) {off : Fin 3 → ℕ} {inb : ∀ a, off a + S1x64x256.size a ≤ S2x512x256.size a}
    {w : FVec F S1x64x256 .bf16} {hx hm} {k : PUnit → Prog (TpuEff nD τ sig (Elt F) Λ₀ .tc) α}
    (h : ST I K c ws A B iprop(gPts c (chunkSet (lh.val % 2) (pos c)) fullShare (GG I (lh.val / 2)) ∗ R) ⊢ WP c (k ⟨⟩) Q)
    (hw : w = myh (HH I (lh.val / 2)) (lh.val % 2) c := by rfl) (e : off = k0_off7 c := by rfl) (hlh : lh.val % 2 = 0 := by rfl) :
    ST I K c ws A B iprop((∃ f, gPts c (chunkSet (lh.val % 2) (pos c)) fullShare f) ∗ R)
      ⊢ WP c (Prog.lift (.store gM (Rect.unit (s := S2x512x256) off S1x64x256.size inb) w Finset.univ hx hm) >>= k) Q := by
  subst e
  exact store_g I K lh (by rw [off7_eq, hlh]) hw h
theorem own1 {Q : α → sProp 𝕄} {A B R : sProp 𝕄} {lh : Fin 6} {off : Fin 3 → ℕ} {inb : ∀ a, off a + S1x64x256.size a ≤ S2x512x256.size a} {hl}
    {k : Vec F S1x64x256 .bf16 → Prog (TpuEff nD τ sig (Elt F) Λ₀ .tc) α}
    (h : ST I K c ws A B iprop(hOwn c I lh ∗ R) ⊢ WP c (k (ownAt 1 c (HH I (lh.val / 2) c))) Q)
    (e : off = k0_off11 c := by rfl) (hlh : lh.val % 2 = 1 := by rfl) :
    ST I K c ws A B iprop(hOwn c I lh ∗ R) ⊢ WP c (Prog.lift (.load hM (Rect.unit (s := S2x512x256) off S1x64x256.size inb).toLoadRect hl) >>= k) Q := by
  subst e
  unfold hOwn at *
  exact load_own I K (by rw [off11_eq, hlh]) rfl h
theorem dg1 {Q : α → sProp 𝕄} {A B R : sProp 𝕄} (lh : Fin 6) {off : Fin 3 → ℕ} {inb : ∀ a, off a + S1x64x256.size a ≤ S2x512x256.size a} {hl}
    {k : Vec F S1x64x256 .bf16 → Prog (TpuEff nD τ sig (Elt F) Λ₀ .tc) α}
    (h : ∀ v, ST I K c ws A B iprop((∃ f, gPts c (chunkSet (lh.val % 2) (pos c)) fullShare f) ∗ R) ⊢ WP c (k v) Q)
    (e : off = k0_off11 c := by rfl) (hlh : lh.val % 2 = 1 := by rfl) :
    ST I K c ws A B iprop((∃ f, gPts c (chunkSet (lh.val % 2) (pos c)) fullShare f) ∗ R) ⊢ WP c (Prog.lift (.load gM (Rect.unit (s := S2x512x256) off S1x64x256.size inb).toLoadRect hl) >>= k) Q := by
  subst e
  exact dead_g I K (by rw [off11_eq, hlh]) h
theorem sg1 {Q : α → sProp 𝕄} {A B R : sProp 𝕄} (lh : Fin 6) {off : Fin 3 → ℕ} {inb : ∀ a, off a + S1x64x256.size a ≤ S2x512x256.size a}
    {w : FVec F S1x64x256 .bf16} {hx hm} {k : PUnit → Prog (TpuEff nD τ sig (Elt F) Λ₀ .tc) α}
    (h : ST I K c ws A B iprop(gPts c (chunkSet (lh.val % 2) (pos c)) fullShare (GG I (lh.val / 2)) ∗ R) ⊢ WP c (k ⟨⟩) Q)
    (hw : w = myh (HH I (lh.val / 2)) (lh.val % 2) c := by rfl) (e : off = k0_off11 c := by rfl) (hlh : lh.val % 2 = 1 := by rfl) :
    ST I K c ws A B iprop((∃ f, gPts c (chunkSet (lh.val % 2) (pos c)) fullShare f) ∗ R)
      ⊢ WP c (Prog.lift (.store gM (Rect.unit (s := S2x512x256) off S1x64x256.size inb) w Finset.univ hx hm) >>= k) Q := by
  subst e
  exact store_g I K lh (by rw [off11_eq, hlh]) hw h

theorem wt {Q : α → sProp 𝕄} {R : sProp 𝕄} (k : Fin 4) (lh : Fin 6) {m : Fin 8} {b h o i} {sp sp' : Space} {s s' : Shape} {e e' : EltTy} {src : Memref sig .tc sp s e} {dst : Memref sig .tc sp' s' e'} {h₁ h₂}
    {kk : PUnit → Prog (TpuEff nD τ sig (Elt F) Λ₀ .tc) α}
    (hh : ST I K c ws (bigSepL l (wTodo c k lh)) (bigSepL (m :: l') (wGot I c k lh)) R ⊢ WP c (kk ⟨⟩) Q)
    (hm : m ≠ 0 := by decide) (hlev : ∀ x ∈ ws, lvK k.val lh.val < x.lev := by decide) (eb : b = 8 + 48 * k.val := by rfl) (eo : o = k0_off1 c (bw lh) (mw m) := by rfl) (hN : dst.view.dmaCredit = N := by rfl) :
    ST I K c ws (bigSepL (m :: l) (wTodo c k lh)) (bigSepL l' (wGot I c k lh)) R
      ⊢ WP c (Prog.lift (.waitDma2 (perM b h o i) src dst h₁ h₂) >>= kk) Q := by
  subst eo
  exact step_wait I K k lh (px_ne c hm) hlev (sem_peer k eb c lh m) hN hh

theorem sgn {Q : α → sProp 𝕄} {B R : sProp 𝕄} {m : Fin 8} {n : Dev nD} {k : PUnit → Prog (TpuEff nD τ sig (Elt F) Λ₀ .tc) α}
    (h : ST I K c ws (bigSepL l (sigTodo c)) B R ⊢ WP c (k ⟨⟩) Q) (hm : m ≠ 0 := by decide) (hn : n.val = pxN c m := by rfl) :
    ST I K c (.bar m :: ws) (bigSepL (m :: l) (sigTodo c)) B R ⊢ WP c (semSignalWord n (SemArray.scalar (sig.barrier 0 rfl) : Sems sig S_).sem 1#32 >>= k) Q :=
  step_sig I K (px_ne c hm) (Fin.ext (hn.trans (pxN_eq c m))) h

theorem dh {Q : α → sProp 𝕄} {A B R : sProp 𝕄} (lh : Fin 6) {off : Fin 3 → ℕ} {inb : ∀ a, off a + S1x512x256.size a ≤ S2x512x256.size a} {hl}
    {k : Vec F S1x512x256 .bf16 → Prog (TpuEff nD τ sig (Elt F) Λ₀ .tc) α}
    (h : ∀ v, ST I K c ws A B iprop((∃ f, hPts c (halfSet (lh.val % 2)) f) ∗ R) ⊢ WP c (k v) Q) (e : off = ![lh.val % 2, 0, 0] := by rfl) :
    ST I K c ws A B iprop((∃ f, hPts c (halfSet (lh.val % 2)) f) ∗ R) ⊢ WP c (Prog.lift (.load hM (Rect.unit (s := S2x512x256) off S1x512x256.size inb).toLoadRect hl) >>= k) Q :=
  dead_h I K _ e h
theorem sh {Q : α → sProp 𝕄} {A B R : sProp 𝕄} (lh : Fin 6) {off : Fin 3 → ℕ} {inb : ∀ a, off a + S1x512x256.size a ≤ S2x512x256.size a}
    {w : FVec F S1x512x256 .bf16} {hx hm} {k : PUnit → Prog (TpuEff nD τ sig (Elt F) Λ₀ .tc) α}
    (h : ST I K c ws A B iprop(hPts c (halfSet (lh.val % 2)) (HH I (lh.val / 2) c) ∗ R) ⊢ WP c (k ⟨⟩) Q)
    (hw : w = hval (XV I (lh.val / 2) c) (I.win (lh.val / 2) c) (lh.val % 2) := by rfl) (e : off = ![lh.val % 2, 0, 0] := by rfl) :
    ST I K c ws A B iprop((∃ f, hPts c (halfSet (lh.val % 2)) f) ∗ R) ⊢ WP c (Prog.lift (.store hM (Rect.unit (s := S2x512x256) off S1x512x256.size inb) w Finset.univ hx hm) >>= k) Q :=
  store_h I K lh e hw h

/-- The loads of a half of the gathered buffer. -/
theorem lg0 {Q : α → sProp 𝕄} {A B R : sProp 𝕄} {lh : Fin 6} {q : PosShare TreeShare} {f : S2x512x256.Idx → Elt F .bf16} {inb hl}
    {k : Vec F S1x512x256 .bf16 → Prog (TpuEff nD τ sig (Elt F) Λ₀ .tc) α}
    (h : ST I K c ws A B iprop(gPts c (halfSet (lh.val % 2)) q f ∗ R) ⊢ WP c (k (halfAt 0 f)) Q) (hlh : lh.val % 2 = 0 := by rfl) :
    ST I K c ws A B iprop(gPts c (halfSet (lh.val % 2)) q f ∗ R) ⊢ WP c (Prog.lift (.load gM (Rect.unit (s := S2x512x256) ![0, 0, 0] S1x512x256.size inb).toLoadRect hl) >>= k) Q :=
  load_half I K (by rw [hlh]) rfl h
theorem lg1 {Q : α → sProp 𝕄} {A B R : sProp 𝕄} {lh : Fin 6} {q : PosShare TreeShare} {f : S2x512x256.Idx → Elt F .bf16} {inb hl}
    {k : Vec F S1x512x256 .bf16 → Prog (TpuEff nD τ sig (Elt F) Λ₀ .tc) α}
    (h : ST I K c ws A B iprop(gPts c (halfSet (lh.val % 2)) q f ∗ R) ⊢ WP c (k (halfAt 1 f)) Q) (hlh : lh.val % 2 = 1 := by rfl) :
    ST I K c ws A B iprop(gPts c (halfSet (lh.val % 2)) q f ∗ R) ⊢ WP c (Prog.lift (.load gM (Rect.unit (s := S2x512x256) ![1, 0, 0] S1x512x256.size inb).toLoadRect hl) >>= k) Q :=
  load_half I K (by rw [hlh]) rfl h

end Ops
end Cert.KProof
-- ==== Proof.Body.lean ====
/-
  The body of the kernel at one device: the operations one after another, each with its own step, from what the device is given to what it leaves.
-/
module

public import proofs.«01_k».proof.Proof.Ops

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (I : Inp F) (K : Dev nD × Fin 193 → ℕ) {c : Dev nD} {ws : List Code}

/-- What a half needs beside its rooms at the peers: the chunks of its gathered buffer, its three layers. -/
def TP (c : Dev nD) (h : ℕ) (l₀ l₁ l₂ : Fin 6) : sProp 𝕄 := iprop(gP c h ∗ U c l₀ ∗ gOwn c h ∗ U c l₁ ∗ U c l₂)

theorem barPays (c : Dev nD) : bigSep (Finset.univ.erase c) (fun d => barPay (F := F) c d) ⊢ iprop(rR c 0 ∗ rR c 1) := by
  have e : Finset.univ.erase c = peers.map ⟨px c, fun _ _ h => px_inj c h⟩ := by revert c; decide
  rw [e, bigSep_map]
  unfold rR
  rw [← pb_sep]
  exact BI.Entails.refl _

/-- After the rendezvous both halves stand before their first layer. -/
theorem enter0 {Z : sProp 𝕄} :
    ST I K c ws (bigSepL [] (sigTodo c)) (bigSepL [] (sigTodo c)) iprop(barGot c ∗ (∃ f, hPts c (halfSet ((0 : Fin 6).val % 2)) f) ∗ TP c 0 0 2 4
        ∗ (∃ f, hPts c (halfSet ((1 : Fin 6).val % 2)) f) ∗ TP c 1 1 3 5 ∗ (∃ f, oPts c f) ∗ Z)
      ⊢ ST I K c ws (bigSepL [] (wTodo c 0 0)) (bigSepL [] (wTodo c 0 0)) iprop((∃ f, hPts c (halfSet ((0 : Fin 6).val % 2)) f) ∗ TA c 0 (gOwn c ((0 : Fin 6).val % 2)) iprop(U c 2 ∗ U c 4)
        ∗ (∃ f, hPts c (halfSet ((1 : Fin 6).val % 2)) f) ∗ TA c 1 (gOwn c ((1 : Fin 6).val % 2)) iprop(U c 3 ∗ U c 5) ∗ (∃ f, oPts c f) ∗ semVal (barCell c) 0 ∗ Z) := by
  rw [nil_eq, nil_eq]
  unfold ST barGot TP TA
  iintro ⟨HK, Hi, Ho, HA, HB, ⟨Hb, Hz⟩, H0, ⟨Hg0, Ha0, Hw0, Hc0, Hd0⟩, H1, ⟨Hg1, Ha1, Hw1, Hc1, Hd1⟩, HO, HZ⟩
  ihave Hb := (barPays c) $$ Hb
  icases Hb with ⟨Hr0, Hr1⟩
  iframe HK Hi Ho HA HB Hz H0 H1 HO HZ
  isplitl [Hg0 Ha0 Hw0 Hc0 Hd0 Hr0]
  · isplitl [Hg0]; · iexact Hg0
    isplitl [Hr0]; · iexact Hr0
    isplitl [Ha0]; · iexact Ha0
    isplitl [Hw0]; · iexact Hw0
    iframe Hc0 Hd0
  · isplitl [Hg1]; · iexact Hg1
    isplitl [Hr1]; · iexact Hr1
    isplitl [Ha1]; · iexact Ha1
    isplitl [Hw1]; · iexact Hw1
    iframe Hc1 Hd1

theorem st_out {A B X T Y V O Z : sProp 𝕄} : ST I K c ws A B iprop(X ∗ T ∗ Y ∗ V ∗ O ∗ Z) ⊢ ST I K c ws A B iprop(O ∗ X ∗ T ∗ Y ∗ V ∗ Z) := by
  unfold ST
  iintro ⟨HK, Hi, Ho, HA, HB, HX, HT, HY, HV, HO, HZ⟩
  iframe HK Hi Ho HA HB HX HT HY HV HO HZ
theorem st_out2 {A B X T Y V O Z : sProp 𝕄} : ST I K c ws A B iprop(O ∗ X ∗ T ∗ Y ∗ V ∗ Z) ⊢ ST I K c ws A B iprop(X ∗ T ∗ Y ∗ V ∗ O ∗ Z) := by
  unfold ST
  iintro ⟨HK, Hi, Ho, HA, HB, HO, HX, HT, HY, HV, HZ⟩
  iframe HK Hi Ho HA HB HX HT HY HV HO HZ

/-- The first layer and the second up to the middle of its gather's waits. -/
theorem first_half {Z : sProp 𝕄} {Q : (Σ' (d : Dev nD) (w₁ : BitVec 32) (w₂ : BitVec 32), BitVec 32) → sProp 𝕄}
    (h : ∀ w₁ w₂ w₃, ST I K c dues2 (bigSepL [5, 7, 6] (wTodo c 3 2)) (bigSepL [2, 4, 3, 1] (wGot I c 3 2)) iprop(gLeaf c I 2 ∗ TC1 c I 2 iprop(U c 4 ∗ Done c 0)
        ∗ gLeaf c I 3 ∗ TC c I 3 iprop(U c 5 ∗ Done c 1) ∗ (∃ f, oPts c f) ∗ semVal (barCell c) 0 ∗ Z) ⊢ Q ⟨c, w₁, w₂, w₃⟩) :
    ST I K c duesB (bigSepL asc (sigTodo c)) (bigSepL [] (sigTodo c)) iprop(barTodo c ∗ (∃ f, hPts c (halfSet ((0 : Fin 6).val % 2)) f) ∗ TP c 0 0 2 4
        ∗ (∃ f, hPts c (halfSet ((1 : Fin 6).val % 2)) f) ∗ TP c 1 1 3 5 ∗ (∃ f, oPts c f) ∗ Z)
      ⊢ WP c (k0_part111 xM (Memref.isWhole_whole _) wiM (Memref.isWhole_whole _) woM (Memref.isWhole_whole _)
        (Memref.whole cc0_stg3_0) (Memref.isWhole_whole _) (Memref.whole cc0_stg4_0) (Memref.isWhole_whole _) (Memref.whole cc0_stg5_0) (Memref.isWhole_whole _)
        (Memref.whole cc0_stg6_0) (Memref.isWhole_whole _) oM (Memref.isWhole_whole _) hM (Memref.isWhole_whole _) rM (Memref.isWhole_whole _) gM (Memref.isWhole_whole _)
        cc0_scratch3 cc0_scratch4 cc0_scratch5 cc0_scratch6) Q := by
  rw [k0_part111_eq_skeleton]
  unfold k0_part111_skel
  refine step_part (by rw [k0_part1_eq_skeleton]) ?_
  unfold k0_part1_skel
  refine step_dev ?_
  refine sgn I K ?_
  refine sgn I K ?_
  refine sgn I K ?_
  refine sgn I K ?_
  refine step_ret rfl ?_
  refine step_part (by rw [k0_part2_eq_skeleton]) ?_
  unfold k0_part2_skel
  refine sgn I K ?_
  refine sgn I K ?_
  refine sgn I K ?_
  refine step_bar I K (by decide) ?_
  refine (enter0 I K).trans ?_
  refine step_in I K (by exact in_x I c) (v := xAt (I.x c)) (by rfl) ?_
  refine step_in I K (by exact in_wi0 I c) (v := wiAt 0 (I.win 0 c)) (by rfl) ?_
  refine dh I K 0 (fun _ => ?_)
  refine sh I K 0 ?_
  refine step_ret rfl ?_
  refine step_part (by rw [k0_part3_eq_skeleton]) ?_
  unfold k0_part3_skel
  refine (st_tr I K (enterA I c 0 _ _ _ _)).trans ?_
  refine rs0 I K 0 ?_
  refine rs0 I K 0 ?_
  refine step_ret rfl ?_
  refine step_part (by rw [k0_part4_eq_skeleton]) ?_
  unfold k0_part4_skel
  refine rs0 I K 0 ?_
  refine rs0 I K 0 ?_
  refine step_ret rfl ?_
  refine step_part (by rw [k0_part5_eq_skeleton]) ?_
  unfold k0_part5_skel
  refine rs0 I K 0 ?_
  refine rs0 I K 0 ?_
  refine rs0 I K 0 ?_
  refine step_ret rfl ?_
  refine step_part (by rw [k0_part6_eq_skeleton]) ?_
  unfold k0_part6_skel
  refine (st_tr I K (exitA I c 0 (wTodo c 0 0) _ _)).trans ?_
  refine (st_swap I K).trans ?_
  refine step_in I K (by exact in_wi0 I c) (v := wiAt 1 (I.win 0 c)) (by rfl) ?_
  refine dh I K 1 (fun _ => ?_)
  refine sh I K 1 ?_
  refine (st_tr I K (enterA I c 1 _ _ _ _)).trans ?_
  refine rs1 I K 1 ?_
  refine step_ret rfl ?_
  refine step_part (by rw [k0_part7_eq_skeleton]) ?_
  unfold k0_part7_skel
  refine rs1 I K 1 ?_
  refine rs1 I K 1 ?_
  refine step_ret rfl ?_
  refine step_part (by rw [k0_part8_eq_skeleton]) ?_
  unfold k0_part8_skel
  refine rs1 I K 1 ?_
  refine rs1 I K 1 ?_
  refine step_ret rfl ?_
  refine step_part (by rw [k0_part9_eq_skeleton]) ?_
  unfold k0_part9_skel
  refine rs1 I K 1 ?_
  refine rs1 I K 1 ?_
  refine (st_tr I K (exitA I c 1 (wTodo c 0 0) _ _)).trans ?_
  refine (st_swap I K).trans ?_
  refine (st_tr I K (enterB I c 0 _ _ _ _)).trans ?_
  refine own0 I K ?_
  refine wt I K 1 0 ?_
  refine step_ret rfl ?_
  refine step_part (by rw [k0_part10_eq_skeleton]) ?_
  unfold k0_part10_skel
  refine slot0 I K 0 ?_
  refine wt I K 1 0 ?_
  refine slot0 I K 2 ?_
  refine wt I K 1 0 ?_
  refine step_ret rfl ?_
  refine step_part (by rw [k0_part11_eq_skeleton]) ?_
  unfold k0_part11_skel
  refine slot0 I K 3 ?_
  refine wt I K 1 0 ?_
  refine slot0 I K 1 ?_
  refine step_ret rfl ?_
  refine step_part (by rw [k0_part12_eq_skeleton]) ?_
  unfold k0_part12_skel
  refine wt I K 1 0 ?_
  refine slot0 I K 4 ?_
  refine wt I K 1 0 ?_
  refine slot0 I K 6 ?_
  refine step_ret rfl ?_
  refine step_part (by rw [k0_part13_eq_skeleton]) ?_
  unfold k0_part13_skel
  refine wt I K 1 0 ?_
  refine slot0 I K 5 ?_
  refine (st_tr I K (exitB0 I c 0 (wTodo c 0 0) _)).trans ?_
  refine dg0 I K 0 (fun _ => ?_)
  refine sg0 I K 0 ?_
  refine (st_tr I K (enterG I c 0 _ _ _)).trans ?_
  refine ag0 I K 0 ?_
  refine step_ret rfl ?_
  refine step_part (by rw [k0_part14_eq_skeleton]) ?_
  unfold k0_part14_skel
  refine ag0 I K 0 ?_
  refine ag0 I K 0 ?_
  refine ag0 I K 0 ?_
  refine step_ret rfl ?_
  refine step_part (by rw [k0_part15_eq_skeleton]) ?_
  unfold k0_part15_skel
  refine ag0 I K 0 ?_
  refine ag0 I K 0 ?_
  refine step_ret rfl ?_
  refine step_part (by rw [k0_part16_eq_skeleton]) ?_
  unfold k0_part16_skel
  refine ag0 I K 0 ?_
  refine (st_tr I K (exitG I c 0 (wTodo c 0 0) _)).trans ?_
  refine (st_swap I K).trans ?_
  refine (st_tr I K (enterB I c 1 _ _ _ _)).trans ?_
  refine own1 I K ?_
  refine wt I K 1 1 ?_
  refine slot1 I K 0 ?_
  refine step_ret rfl ?_
  refine step_part (by rw [k0_part17_eq_skeleton]) ?_
  unfold k0_part17_skel
  refine wt I K 1 1 ?_
  refine slot1 I K 2 ?_
  refine wt I K 1 1 ?_
  refine slot1 I K 3 ?_
  refine step_ret rfl ?_
  refine step_part (by rw [k0_part18_eq_skeleton]) ?_
  unfold k0_part18_skel
  refine wt I K 1 1 ?_
  refine slot1 I K 1 ?_
  refine wt I K 1 1 ?_
  refine slot1 I K 4 ?_
  refine step_ret rfl ?_
  refine step_part (by rw [k0_part19_eq_skeleton]) ?_
  unfold k0_part19_skel
  refine wt I K 1 1 ?_
  refine slot1 I K 6 ?_
  refine wt I K 1 1 ?_
  refine slot1 I K 5 ?_
  refine (st_tr I K (exitB0 I c 1 (wTodo c 0 0) _)).trans ?_
  refine dg1 I K 1 (fun _ => ?_)
  refine sg1 I K 1 ?_
  refine step_ret rfl ?_
  refine step_part (by rw [k0_part20_eq_skeleton]) ?_
  unfold k0_part20_skel
  refine (st_tr I K (enterG I c 1 _ _ _)).trans ?_
  refine ag1 I K 1 ?_
  refine ag1 I K 1 ?_
  refine step_ret rfl ?_
  refine step_part (by rw [k0_part21_eq_skeleton]) ?_
  unfold k0_part21_skel
  refine ag1 I K 1 ?_
  refine ag1 I K 1 ?_
  refine ag1 I K 1 ?_
  refine step_ret rfl ?_
  refine step_part (by rw [k0_part22_eq_skeleton]) ?_
  unfold k0_part22_skel
  refine ag1 I K 1 ?_
  refine ag1 I K 1 ?_
  refine step_ret rfl ?_
  refine step_part (by rw [k0_part23_eq_skeleton]) ?_
  unfold k0_part23_skel
  refine (st_tr I K (exitG I c 1 (wTodo c 0 0) _)).trans ?_
  refine (st_swap I K).trans ?_
  refine (st_tr I K (enterC I c 0 _ _ _)).trans ?_
  refine wt I K 3 0 ?_
  refine wt I K 3 0 ?_
  refine wt I K 3 0 ?_
  refine step_ret rfl ?_
  refine step_part (by rw [k0_part24_eq_skeleton]) ?_
  unfold k0_part24_skel
  refine wt I K 3 0 ?_
  refine wt I K 3 0 ?_
  refine step_ret rfl ?_
  refine step_part (by rw [k0_part25_eq_skeleton]) ?_
  unfold k0_part25_skel
  refine wt I K 3 0 ?_
  refine wt I K 3 0 ?_
  refine (st_tr I K (exitC I c 0 (wTodo c 0 0) _)).trans ?_
  refine lg0 I K ?_
  refine step_in I K (by exact in_wo0 I c) (v := woAt 0 (I.wout 0 c)) (by rfl) ?_
  refine step_ret rfl ?_
  refine step_part (by rw [k0_part26_eq_skeleton]) ?_
  unfold k0_part26_skel
  refine (st_swap I K).trans ?_
  refine (st_tr I K (enterC I c 1 _ _ _)).trans ?_
  refine wt I K 3 1 ?_
  refine wt I K 3 1 ?_
  refine step_ret rfl ?_
  refine step_part (by rw [k0_part27_eq_skeleton]) ?_
  unfold k0_part27_skel
  refine wt I K 3 1 ?_
  refine wt I K 3 1 ?_
  refine step_ret rfl ?_
  refine step_part (by rw [k0_part28_eq_skeleton]) ?_
  unfold k0_part28_skel
  refine wt I K 3 1 ?_
  refine wt I K 3 1 ?_
  refine step_ret rfl ?_
  refine step_part (by rw [k0_part29_eq_skeleton]) ?_
  unfold k0_part29_skel
  refine wt I K 3 1 ?_
  refine (st_tr I K (exitC I c 1 (wTodo c 0 0) _)).trans ?_
  refine lg1 I K ?_
  refine step_in I K (by exact in_wo0 I c) (v := woAt 1 (I.wout 0 c)) (by rfl) ?_
  refine (st_swap I K).trans ?_
  refine (st_tr I K (enterD I c 0 _ _ _)).trans ?_
  refine wt I K 0 0 ?_
  refine step_ret rfl ?_
  refine step_part (by rw [k0_part30_eq_skeleton]) ?_
  unfold k0_part30_skel
  refine wt I K 0 0 ?_
  refine wt I K 0 0 ?_
  refine wt I K 0 0 ?_
  refine step_ret rfl ?_
  refine step_part (by rw [k0_part31_eq_skeleton]) ?_
  unfold k0_part31_skel
  refine wt I K 0 0 ?_
  refine wt I K 0 0 ?_
  refine wt I K 0 0 ?_
  refine step_ret rfl ?_
  refine step_part (by rw [k0_part32_eq_skeleton]) ?_
  unfold k0_part32_skel
  refine (st_tr I K (exitDn I c 0 2 rfl (by decide) (wTodo c 0 0) _ _ (BI.Entails.refl _))).trans ?_
  refine (st_swap I K).trans ?_
  refine (st_tr I K (enterD I c 1 _ _ _)).trans ?_
  refine wt I K 0 1 ?_
  refine wt I K 0 1 ?_
  refine wt I K 0 1 ?_
  refine step_ret rfl ?_
  refine step_part (by rw [k0_part33_eq_skeleton]) ?_
  unfold k0_part33_skel
  refine wt I K 0 1 ?_
  refine wt I K 0 1 ?_
  refine wt I K 0 1 ?_
  refine step_ret rfl ?_
  refine step_part (by rw [k0_part34_eq_skeleton]) ?_
  unfold k0_part34_skel
  refine wt I K 0 1 ?_
  refine (st_tr I K (exitDn I c 1 3 rfl (by decide) (wTodo c 0 0) _ _ (BI.Entails.refl _))).trans ?_
  refine (st_swap I K).trans ?_
  refine step_in I K (by exact in_wi1 I c) (v := wiAt 0 (I.win 1 c)) (by rfl) ?_
  refine dh I K 2 (fun _ => ?_)
  refine sh I K 2 ?_
  refine (st_tr I K (enterA I c 2 _ _ _ _)).trans ?_
  refine rs0 I K 2 ?_
  refine step_ret rfl ?_
  refine step_part (by rw [k0_part35_eq_skeleton]) ?_
  unfold k0_part35_skel
  refine rs0 I K 2 ?_
  refine rs0 I K 2 ?_
  refine step_ret rfl ?_
  refine step_part (by rw [k0_part36_eq_skeleton]) ?_
  unfold k0_part36_skel
  refine rs0 I K 2 ?_
  refine rs0 I K 2 ?_
  refine step_ret rfl ?_
  refine step_part (by rw [k0_part37_eq_skeleton]) ?_
  unfold k0_part37_skel
  refine rs0 I K 2 ?_
  refine rs0 I K 2 ?_
  refine (st_tr I K (exitA I c 2 (wTodo c 0 0) _ _)).trans ?_
  refine (st_swap I K).trans ?_
  refine step_in I K (by exact in_wi1 I c) (v := wiAt 1 (I.win 1 c)) (by rfl) ?_
  refine dh I K 3 (fun _ => ?_)
  refine sh I K 3 ?_
  refine step_ret rfl ?_
  refine step_part (by rw [k0_part38_eq_skeleton]) ?_
  unfold k0_part38_skel
  refine (st_tr I K (enterA I c 3 _ _ _ _)).trans ?_
  refine rs1 I K 3 ?_
  refine rs1 I K 3 ?_
  refine step_ret rfl ?_
  refine step_part (by rw [k0_part39_eq_skeleton]) ?_
  unfold k0_part39_skel
  refine rs1 I K 3 ?_
  refine rs1 I K 3 ?_
  refine step_ret rfl ?_
  refine step_part (by rw [k0_part40_eq_skeleton]) ?_
  unfold k0_part40_skel
  refine rs1 I K 3 ?_
  refine rs1 I K 3 ?_
  refine step_ret rfl ?_
  refine step_part (by rw [k0_part41_eq_skeleton]) ?_
  unfold k0_part41_skel
  refine rs1 I K 3 ?_
  refine (st_tr I K (exitA I c 3 (wTodo c 0 0) _ _)).trans ?_
  refine (st_swap I K).trans ?_
  refine (st_tr I K (enterB I c 2 _ _ _ _)).trans ?_
  refine own0 I K ?_
  refine wt I K 1 2 ?_
  refine slot0 I K 0 ?_
  refine step_ret rfl ?_
  refine step_part (by rw [k0_part42_eq_skeleton]) ?_
  unfold k0_part42_skel
  refine wt I K 1 2 ?_
  refine slot0 I K 2 ?_
  refine wt I K 1 2 ?_
  refine slot0 I K 3 ?_
  refine step_ret rfl ?_
  refine step_part (by rw [k0_part43_eq_skeleton]) ?_
  unfold k0_part43_skel
  refine wt I K 1 2 ?_
  refine slot0 I K 1 ?_
  refine wt I K 1 2 ?_
  refine slot0 I K 4 ?_
  refine step_ret rfl ?_
  refine step_part (by rw [k0_part44_eq_skeleton]) ?_
  unfold k0_part44_skel
  refine wt I K 1 2 ?_
  refine slot0 I K 6 ?_
  refine wt I K 1 2 ?_
  refine slot0 I K 5 ?_
  refine step_ret rfl ?_
  refine step_part (by rw [k0_part45_eq_skeleton]) ?_
  unfold k0_part45_skel
  refine (st_tr I K (exitB1 I c 2 0 _ _)).trans ?_
  refine wt I K 2 0 ?_
  refine wt I K 2 0 ?_
  refine wt I K 2 0 ?_
  refine step_ret rfl ?_
  refine step_part (by rw [k0_part46_eq_skeleton]) ?_
  unfold k0_part46_skel
  refine wt I K 2 0 ?_
  refine wt I K 2 0 ?_
  refine wt I K 2 0 ?_
  refine step_ret rfl ?_
  refine step_part (by rw [k0_part47_eq_skeleton]) ?_
  unfold k0_part47_skel
  refine wt I K 2 0 ?_
  refine (st_tr I K (exitB2 I c 2 0 rfl (wTodo c 0 0) _)).trans ?_
  refine dg0 I K 2 (fun _ => ?_)
  refine sg0 I K 2 ?_
  refine (st_tr I K (enterG I c 2 _ _ _)).trans ?_
  refine ag0 I K 2 ?_
  refine step_ret rfl ?_
  refine step_part (by rw [k0_part48_eq_skeleton]) ?_
  unfold k0_part48_skel
  refine ag0 I K 2 ?_
  refine ag0 I K 2 ?_
  refine ag0 I K 2 ?_
  refine step_ret rfl ?_
  refine step_part (by rw [k0_part49_eq_skeleton]) ?_
  unfold k0_part49_skel
  refine ag0 I K 2 ?_
  refine ag0 I K 2 ?_
  refine ag0 I K 2 ?_
  refine (st_tr I K (exitG I c 2 (wTodo c 0 0) _)).trans ?_
  refine (st_swap I K).trans ?_
  refine (st_tr I K (enterB I c 3 _ _ _ _)).trans ?_
  refine own1 I K ?_
  refine step_ret rfl ?_
  refine step_part (by rw [k0_part50_eq_skeleton]) ?_
  unfold k0_part50_skel
  refine wt I K 1 3 ?_
  refine slot1 I K 0 ?_
  refine wt I K 1 3 ?_
  refine step_ret rfl ?_
  refine step_part (by rw [k0_part51_eq_skeleton]) ?_
  unfold k0_part51_skel
  refine slot1 I K 2 ?_
  refine wt I K 1 3 ?_
  refine slot1 I K 3 ?_
  refine wt I K 1 3 ?_
  refine step_ret rfl ?_
  refine step_part (by rw [k0_part52_eq_skeleton]) ?_
  unfold k0_part52_skel
  refine slot1 I K 1 ?_
  refine wt I K 1 3 ?_
  refine slot1 I K 4 ?_
  refine wt I K 1 3 ?_
  refine step_ret rfl ?_
  refine step_part (by rw [k0_part53_eq_skeleton]) ?_
  unfold k0_part53_skel
  refine slot1 I K 6 ?_
  refine wt I K 1 3 ?_
  refine slot1 I K 5 ?_
  refine step_ret rfl ?_
  refine step_part (by rw [k0_part54_eq_skeleton]) ?_
  unfold k0_part54_skel
  refine (st_tr I K (exitB1 I c 3 1 _ _)).trans ?_
  refine wt I K 2 1 ?_
  refine wt I K 2 1 ?_
  refine wt I K 2 1 ?_
  refine step_ret rfl ?_
  refine step_part (by rw [k0_part55_eq_skeleton]) ?_
  unfold k0_part55_skel
  refine wt I K 2 1 ?_
  refine wt I K 2 1 ?_
  refine wt I K 2 1 ?_
  refine step_ret rfl ?_
  refine step_part (by rw [k0_part56_eq_skeleton]) ?_
  unfold k0_part56_skel
  refine wt I K 2 1 ?_
  refine (st_tr I K (exitB2 I c 3 1 rfl (wTodo c 0 0) _)).trans ?_
  refine dg1 I K 3 (fun _ => ?_)
  refine sg1 I K 3 ?_
  refine (st_tr I K (enterG I c 3 _ _ _)).trans ?_
  refine ag1 I K 3 ?_
  refine ag1 I K 3 ?_
  refine step_ret rfl ?_
  refine step_part (by rw [k0_part57_eq_skeleton]) ?_
  unfold k0_part57_skel
  refine ag1 I K 3 ?_
  refine ag1 I K 3 ?_
  refine step_ret rfl ?_
  refine step_part (by rw [k0_part58_eq_skeleton]) ?_
  unfold k0_part58_skel
  refine ag1 I K 3 ?_
  refine ag1 I K 3 ?_
  refine ag1 I K 3 ?_
  refine step_ret rfl ?_
  refine step_part (by rw [k0_part59_eq_skeleton]) ?_
  unfold k0_part59_skel
  refine (st_tr I K (exitG I c 3 (wTodo c 0 0) _)).trans ?_
  refine (st_swap I K).trans ?_
  refine (st_tr I K (enterC I c 2 _ _ _)).trans ?_
  refine wt I K 3 2 ?_
  refine wt I K 3 2 ?_
  refine step_ret rfl ?_
  refine step_part (by rw [k0_part60_eq_skeleton]) ?_
  unfold k0_part60_skel
  refine wt I K 3 2 ?_
  refine wt I K 3 2 ?_
  refine step_ret rfl ?_
  exact step_ret rfl (h _ _ _)

/-- The whole body. -/
theorem body_run {Z : sProp 𝕄} {Q : PUnit → sProp 𝕄}
    (h : ST I K c [] (bigSepL [] (wTodo c 0 0)) (bigSepL [] (wTodo c 0 0)) iprop(hPts c (halfSet ((4 : Fin 6).val % 2)) (HH I ((4 : Fin 6).val / 2) c) ∗ TF c I 4 iprop(Done c 0 ∗ Done c 2)
        ∗ hPts c (halfSet ((5 : Fin 6).val % 2)) (HH I ((5 : Fin 6).val / 2) c) ∗ TF c I 5 iprop(Done c 1 ∗ Done c 3) ∗ oPts c (outV I c) ∗ semVal (barCell c) 0 ∗ Z) ⊢ Q ⟨⟩) :
    ST I K c duesB (bigSepL asc (sigTodo c)) (bigSepL [] (sigTodo c)) iprop(barTodo c ∗ (∃ f, hPts c (halfSet ((0 : Fin 6).val % 2)) f) ∗ TP c 0 0 2 4
        ∗ (∃ f, hPts c (halfSet ((1 : Fin 6).val % 2)) f) ∗ TP c 1 1 3 5 ∗ (∃ f, oPts c f) ∗ Z)
      ⊢ WP c (cc0_body xM (Memref.isWhole_whole _) wiM (Memref.isWhole_whole _) woM (Memref.isWhole_whole _)
        (Memref.whole cc0_stg3_0) (Memref.isWhole_whole _) (Memref.whole cc0_stg4_0) (Memref.isWhole_whole _) (Memref.whole cc0_stg5_0) (Memref.isWhole_whole _)
        (Memref.whole cc0_stg6_0) (Memref.isWhole_whole _) oM (Memref.isWhole_whole _) hM (Memref.isWhole_whole _) rM (Memref.isWhole_whole _) gM (Memref.isWhole_whole _)
        cc0_scratch3 cc0_scratch4 cc0_scratch5 cc0_scratch6) Q := by
  rw [cc0_body_eq_skeleton]
  unfold cc0_body_skel
  refine step_part rfl (first_half I K fun _ _ _ => ?_)
  refine step_part (by rw [k0_part61_eq_skeleton]) ?_
  unfold k0_part61_skel
  refine wt I K 3 2 ?_
  refine wt I K 3 2 ?_
  refine wt I K 3 2 ?_
  refine step_ret rfl ?_
  refine step_part (by rw [k0_part62_eq_skeleton]) ?_
  unfold k0_part62_skel
  refine (st_tr I K (exitC I c 2 (wTodo c 0 0) _)).trans ?_
  refine lg0 I K ?_
  refine step_in I K (by exact in_wo1 I c) (v := woAt 0 (I.wout 1 c)) (by rfl) ?_
  refine (st_swap I K).trans ?_
  refine (st_tr I K (enterC I c 3 _ _ _)).trans ?_
  refine wt I K 3 3 ?_
  refine step_ret rfl ?_
  refine step_part (by rw [k0_part63_eq_skeleton]) ?_
  unfold k0_part63_skel
  refine wt I K 3 3 ?_
  refine wt I K 3 3 ?_
  refine wt I K 3 3 ?_
  refine step_ret rfl ?_
  refine step_part (by rw [k0_part64_eq_skeleton]) ?_
  unfold k0_part64_skel
  refine wt I K 3 3 ?_
  refine wt I K 3 3 ?_
  refine step_ret rfl ?_
  refine step_part (by rw [k0_part65_eq_skeleton]) ?_
  unfold k0_part65_skel
  refine wt I K 3 3 ?_
  refine (st_tr I K (exitC I c 3 (wTodo c 0 0) _)).trans ?_
  refine lg1 I K ?_
  refine step_in I K (by exact in_wo1 I c) (v := woAt 1 (I.wout 1 c)) (by rfl) ?_
  refine (st_swap I K).trans ?_
  refine (st_tr I K (enterD I c 2 _ _ _)).trans ?_
  refine wt I K 0 2 ?_
  refine step_ret rfl ?_
  refine step_part (by rw [k0_part66_eq_skeleton]) ?_
  unfold k0_part66_skel
  refine wt I K 0 2 ?_
  refine wt I K 0 2 ?_
  refine wt I K 0 2 ?_
  refine step_ret rfl ?_
  refine step_part (by rw [k0_part67_eq_skeleton]) ?_
  unfold k0_part67_skel
  refine wt I K 0 2 ?_
  refine wt I K 0 2 ?_
  refine wt I K 0 2 ?_
  refine step_ret rfl ?_
  refine step_part (by rw [k0_part68_eq_skeleton]) ?_
  unfold k0_part68_skel
  refine (st_tr I K (exitDn I c 2 4 rfl (by decide) (wTodo c 0 0) _ _ (BI.Entails.refl _))).trans ?_
  refine (st_swap I K).trans ?_
  refine (st_tr I K (enterD I c 3 _ _ _)).trans ?_
  refine wt I K 0 3 ?_
  refine wt I K 0 3 ?_
  refine wt I K 0 3 ?_
  refine step_ret rfl ?_
  refine step_part (by rw [k0_part69_eq_skeleton]) ?_
  unfold k0_part69_skel
  refine wt I K 0 3 ?_
  refine wt I K 0 3 ?_
  refine wt I K 0 3 ?_
  refine step_ret rfl ?_
  refine step_part (by rw [k0_part70_eq_skeleton]) ?_
  unfold k0_part70_skel
  refine wt I K 0 3 ?_
  refine (st_tr I K (exitDn I c 3 5 rfl (by decide) (wTodo c 0 0) _ _ (BI.Entails.refl _))).trans ?_
  refine (st_swap I K).trans ?_
  refine step_in I K (by exact in_wi2 I c) (v := wiAt 0 (I.win 2 c)) (by rfl) ?_
  refine dh I K 4 (fun _ => ?_)
  refine sh I K 4 ?_
  refine (st_tr I K (enterA I c 4 _ _ _ _)).trans ?_
  refine rs0 I K 4 ?_
  refine step_ret rfl ?_
  refine step_part (by rw [k0_part71_eq_skeleton]) ?_
  unfold k0_part71_skel
  refine rs0 I K 4 ?_
  refine rs0 I K 4 ?_
  refine step_ret rfl ?_
  refine step_part (by rw [k0_part72_eq_skeleton]) ?_
  unfold k0_part72_skel
  refine rs0 I K 4 ?_
  refine rs0 I K 4 ?_
  refine step_ret rfl ?_
  refine step_part (by rw [k0_part73_eq_skeleton]) ?_
  unfold k0_part73_skel
  refine rs0 I K 4 ?_
  refine rs0 I K 4 ?_
  refine (st_tr I K (exitA I c 4 (wTodo c 0 0) _ _)).trans ?_
  refine (st_swap I K).trans ?_
  refine step_in I K (by exact in_wi2 I c) (v := wiAt 1 (I.win 2 c)) (by rfl) ?_
  refine dh I K 5 (fun _ => ?_)
  refine sh I K 5 ?_
  refine step_ret rfl ?_
  refine step_part (by rw [k0_part74_eq_skeleton]) ?_
  unfold k0_part74_skel
  refine (st_tr I K (enterA I c 5 _ _ _ _)).trans ?_
  refine rs1 I K 5 ?_
  refine rs1 I K 5 ?_
  refine step_ret rfl ?_
  refine step_part (by rw [k0_part75_eq_skeleton]) ?_
  unfold k0_part75_skel
  refine rs1 I K 5 ?_
  refine rs1 I K 5 ?_
  refine step_ret rfl ?_
  refine step_part (by rw [k0_part76_eq_skeleton]) ?_
  unfold k0_part76_skel
  refine rs1 I K 5 ?_
  refine rs1 I K 5 ?_
  refine step_ret rfl ?_
  refine step_part (by rw [k0_part77_eq_skeleton]) ?_
  unfold k0_part77_skel
  refine rs1 I K 5 ?_
  refine (st_tr I K (exitA I c 5 (wTodo c 0 0) _ _)).trans ?_
  refine (st_swap I K).trans ?_
  refine (st_tr I K (enterB I c 4 _ _ _ _)).trans ?_
  refine own0 I K ?_
  refine wt I K 1 4 ?_
  refine slot0 I K 0 ?_
  refine step_ret rfl ?_
  refine step_part (by rw [k0_part78_eq_skeleton]) ?_
  unfold k0_part78_skel
  refine wt I K 1 4 ?_
  refine slot0 I K 2 ?_
  refine wt I K 1 4 ?_
  refine slot0 I K 3 ?_
  refine step_ret rfl ?_
  refine step_part (by rw [k0_part79_eq_skeleton]) ?_
  unfold k0_part79_skel
  refine wt I K 1 4 ?_
  refine slot0 I K 1 ?_
  refine wt I K 1 4 ?_
  refine slot0 I K 4 ?_
  refine step_ret rfl ?_
  refine step_part (by rw [k0_part80_eq_skeleton]) ?_
  unfold k0_part80_skel
  refine wt I K 1 4 ?_
  refine slot0 I K 6 ?_
  refine wt I K 1 4 ?_
  refine slot0 I K 5 ?_
  refine step_ret rfl ?_
  refine step_part (by rw [k0_part81_eq_skeleton]) ?_
  unfold k0_part81_skel
  refine (st_tr I K (exitB1 I c 4 2 _ _)).trans ?_
  refine wt I K 2 2 ?_
  refine wt I K 2 2 ?_
  refine wt I K 2 2 ?_
  refine step_ret rfl ?_
  refine step_part (by rw [k0_part82_eq_skeleton]) ?_
  unfold k0_part82_skel
  refine wt I K 2 2 ?_
  refine wt I K 2 2 ?_
  refine wt I K 2 2 ?_
  refine step_ret rfl ?_
  refine step_part (by rw [k0_part83_eq_skeleton]) ?_
  unfold k0_part83_skel
  refine wt I K 2 2 ?_
  refine (st_tr I K (exitB2 I c 4 2 rfl (wTodo c 0 0) _)).trans ?_
  refine dg0 I K 4 (fun _ => ?_)
  refine sg0 I K 4 ?_
  refine (st_tr I K (enterG I c 4 _ _ _)).trans ?_
  refine ag0 I K 4 ?_
  refine step_ret rfl ?_
  refine step_part (by rw [k0_part84_eq_skeleton]) ?_
  unfold k0_part84_skel
  refine ag0 I K 4 ?_
  refine ag0 I K 4 ?_
  refine ag0 I K 4 ?_
  refine step_ret rfl ?_
  refine step_part (by rw [k0_part85_eq_skeleton]) ?_
  unfold k0_part85_skel
  refine ag0 I K 4 ?_
  refine ag0 I K 4 ?_
  refine step_ret rfl ?_
  refine step_part (by rw [k0_part86_eq_skeleton]) ?_
  unfold k0_part86_skel
  refine ag0 I K 4 ?_
  refine (st_tr I K (exitG I c 4 (wTodo c 0 0) _)).trans ?_
  refine (st_swap I K).trans ?_
  refine (st_tr I K (enterB I c 5 _ _ _ _)).trans ?_
  refine own1 I K ?_
  refine wt I K 1 5 ?_
  refine slot1 I K 0 ?_
  refine step_ret rfl ?_
  refine step_part (by rw [k0_part87_eq_skeleton]) ?_
  unfold k0_part87_skel
  refine wt I K 1 5 ?_
  refine slot1 I K 2 ?_
  refine wt I K 1 5 ?_
  refine slot1 I K 3 ?_
  refine step_ret rfl ?_
  refine step_part (by rw [k0_part88_eq_skeleton]) ?_
  unfold k0_part88_skel
  refine wt I K 1 5 ?_
  refine slot1 I K 1 ?_
  refine wt I K 1 5 ?_
  refine slot1 I K 4 ?_
  refine step_ret rfl ?_
  refine step_part (by rw [k0_part89_eq_skeleton]) ?_
  unfold k0_part89_skel
  refine wt I K 1 5 ?_
  refine slot1 I K 6 ?_
  refine wt I K 1 5 ?_
  refine slot1 I K 5 ?_
  refine step_ret rfl ?_
  refine step_part (by rw [k0_part90_eq_skeleton]) ?_
  unfold k0_part90_skel
  refine (st_tr I K (exitB1 I c 5 3 _ _)).trans ?_
  refine wt I K 2 3 ?_
  refine wt I K 2 3 ?_
  refine wt I K 2 3 ?_
  refine step_ret rfl ?_
  refine step_part (by rw [k0_part91_eq_skeleton]) ?_
  unfold k0_part91_skel
  refine wt I K 2 3 ?_
  refine wt I K 2 3 ?_
  refine wt I K 2 3 ?_
  refine step_ret rfl ?_
  refine step_part (by rw [k0_part92_eq_skeleton]) ?_
  unfold k0_part92_skel
  refine wt I K 2 3 ?_
  refine (st_tr I K (exitB2 I c 5 3 rfl (wTodo c 0 0) _)).trans ?_
  refine dg1 I K 5 (fun _ => ?_)
  refine sg1 I K 5 ?_
  refine (st_tr I K (enterG I c 5 _ _ _)).trans ?_
  refine ag1 I K 5 ?_
  refine step_ret rfl ?_
  refine step_part (by rw [k0_part93_eq_skeleton]) ?_
  unfold k0_part93_skel
  refine ag1 I K 5 ?_
  refine ag1 I K 5 ?_
  refine ag1 I K 5 ?_
  refine step_ret rfl ?_
  refine step_part (by rw [k0_part94_eq_skeleton]) ?_
  unfold k0_part94_skel
  refine ag1 I K 5 ?_
  refine ag1 I K 5 ?_
  refine step_ret rfl ?_
  refine step_part (by rw [k0_part95_eq_skeleton]) ?_
  unfold k0_part95_skel
  refine ag1 I K 5 ?_
  refine (st_tr I K (exitG I c 5 (wTodo c 0 0) _)).trans ?_
  refine (st_swap I K).trans ?_
  refine (st_tr I K (enterC I c 4 _ _ _)).trans ?_
  refine wt I K 3 4 ?_
  refine wt I K 3 4 ?_
  refine step_ret rfl ?_
  refine step_part (by rw [k0_part96_eq_skeleton]) ?_
  unfold k0_part96_skel
  refine wt I K 3 4 ?_
  refine wt I K 3 4 ?_
  refine step_ret rfl ?_
  refine step_part (by rw [k0_part97_eq_skeleton]) ?_
  unfold k0_part97_skel
  refine wt I K 3 4 ?_
  refine wt I K 3 4 ?_
  refine step_ret rfl ?_
  refine step_part (by rw [k0_part98_eq_skeleton]) ?_
  unfold k0_part98_skel
  refine wt I K 3 4 ?_
  refine (st_tr I K (exitC I c 4 (wTodo c 0 0) _)).trans ?_
  refine lg0 I K ?_
  refine step_in I K (by exact in_wo2 I c) (v := woAt 0 (I.wout 2 c)) (by rfl) ?_
  refine (st_swap I K).trans ?_
  refine (st_tr I K (enterC I c 5 _ _ _)).trans ?_
  refine wt I K 3 5 ?_
  refine step_ret rfl ?_
  refine step_part (by rw [k0_part99_eq_skeleton]) ?_
  unfold k0_part99_skel
  refine wt I K 3 5 ?_
  refine wt I K 3 5 ?_
  refine step_ret rfl ?_
  refine step_part (by rw [k0_part100_eq_skeleton]) ?_
  unfold k0_part100_skel
  refine wt I K 3 5 ?_
  refine wt I K 3 5 ?_
  refine step_ret rfl ?_
  refine step_part (by rw [k0_part101_eq_skeleton]) ?_
  unfold k0_part101_skel
  refine wt I K 3 5 ?_
  refine wt I K 3 5 ?_
  refine (st_tr I K (exitC I c 5 (wTodo c 0 0) _)).trans ?_
  refine lg1 I K ?_
  refine step_in I K (by exact in_wo2 I c) (v := woAt 1 (I.wout 2 c)) (by rfl) ?_
  refine (st_swap I K).trans ?_
  refine (st_out I K).trans ?_
  refine dead_o I K (fun _ => ?_)
  refine store_o I K (v := outV I c) rfl ?_
  refine step_ret rfl ?_
  refine step_part (by rw [k0_part102_eq_skeleton]) ?_
  unfold k0_part102_skel
  refine (st_out2 I K).trans ?_
  refine (st_tr I K (enterD I c 4 _ _ _)).trans ?_
  refine wt I K 0 4 ?_
  refine wt I K 0 4 ?_
  refine wt I K 0 4 ?_
  refine step_ret rfl ?_
  refine step_part (by rw [k0_part103_eq_skeleton]) ?_
  unfold k0_part103_skel
  refine wt I K 0 4 ?_
  refine wt I K 0 4 ?_
  refine wt I K 0 4 ?_
  refine step_ret rfl ?_
  refine step_part (by rw [k0_part104_eq_skeleton]) ?_
  unfold k0_part104_skel
  refine wt I K 0 4 ?_
  refine (st_tr I K (exitDl I c 4 (by decide) (wTodo c 0 0) _)).trans ?_
  refine (st_swap I K).trans ?_
  refine (st_tr I K (enterD I c 5 _ _ _)).trans ?_
  refine wt I K 0 5 ?_
  refine wt I K 0 5 ?_
  refine step_ret rfl ?_
  refine step_part (by rw [k0_part105_eq_skeleton]) ?_
  unfold k0_part105_skel
  refine wt I K 0 5 ?_
  refine wt I K 0 5 ?_
  refine wt I K 0 5 ?_
  refine step_ret rfl ?_
  refine step_part (by rw [k0_part106_eq_skeleton]) ?_
  unfold k0_part106_skel
  refine wt I K 0 5 ?_
  refine wt I K 0 5 ?_
  refine (st_tr I K (exitDl I c 5 (by decide) (wTodo c 0 0) _)).trans ?_
  refine (st_swap I K).trans ?_
  refine (st_tr I K (enterE I c 4 _ _ _)).trans ?_
  refine wt I K 2 4 ?_
  refine step_ret rfl ?_
  refine step_part (by rw [k0_part107_eq_skeleton]) ?_
  unfold k0_part107_skel
  refine wt I K 2 4 ?_
  refine wt I K 2 4 ?_
  refine wt I K 2 4 ?_
  refine step_ret rfl ?_
  refine step_part (by rw [k0_part108_eq_skeleton]) ?_
  unfold k0_part108_skel
  refine wt I K 2 4 ?_
  refine wt I K 2 4 ?_
  refine wt I K 2 4 ?_
  refine step_ret rfl ?_
  refine step_part (by rw [k0_part109_eq_skeleton]) ?_
  unfold k0_part109_skel
  refine (st_tr I K (exitE I c 4 (wTodo c 0 0) _)).trans ?_
  refine (st_swap I K).trans ?_
  refine (st_tr I K (enterE I c 5 _ _ _)).trans ?_
  refine wt I K 2 5 ?_
  refine wt I K 2 5 ?_
  refine wt I K 2 5 ?_
  refine step_ret rfl ?_
  refine step_part (by rw [k0_part110_eq_skeleton]) ?_
  unfold k0_part110_skel
  refine wt I K 2 5 ?_
  refine wt I K 2 5 ?_
  refine wt I K 2 5 ?_
  refine step_ret rfl ?_
  refine wt I K 2 5 ?_
  refine (st_tr I K (exitE I c 5 (wTodo c 0 0) _)).trans ?_
  refine (st_swap I K).trans ?_
  exact step_ret rfl h

end Cert.KProof
-- ==== Proof.Deal.lean ====
/-
  The launch's ghost state: the cells and the duties minted, dealt to the devices that pay them; the credits a device starts with; the cells no copy uses, closed at once.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## Families over the cells, sorted -/

theorem ci_inj : Function.Injective fun x : Fin 4 × Fin 6 × Fin 8 => ci x.1 x.2.1 x.2.2 := by
  rintro ⟨k, lh, j⟩ ⟨k', lh', j'⟩ h
  have h' := congrArg Fin.val h
  unfold ci at h'
  have := lh.isLt; have := lh'.isLt; have := j.isLt; have := j'.isLt
  simp only at h'
  refine Prod.ext (Fin.ext ?_) (Prod.ext (Fin.ext ?_) (Fin.ext ?_)) <;> simp only <;> omega

theorem ci_all : (Finset.univ : Finset (Fin 193)).erase 0 = Finset.univ.map ⟨fun x : Fin 4 × Fin 6 × Fin 8 => ci x.1 x.2.1 x.2.2, ci_inj⟩ := by
  refine (Finset.eq_of_subset_of_card_le (fun i hi => ?_) ?_).symm
  · obtain ⟨x, -, rfl⟩ := Finset.mem_map.mp hi
    refine Finset.mem_erase.mpr ⟨fun h => ?_, Finset.mem_univ _⟩
    have h' := congrArg Fin.val h
    change 1 + 48 * x.1.val + 8 * x.2.1.val + x.2.2.val = 0 at h'
    omega
  · rw [Finset.card_erase_of_mem (Finset.mem_univ _), Finset.card_map, Finset.card_univ, Finset.card_univ]
    simp

section Sorted
omit [FloatOps F]

theorem bmono {J : Type} {S : Finset J} {Φ Ψ : J → sProp 𝕄} (h : ∀ i ∈ S, Φ i ⊢ Ψ i) : bigSep S Φ ⊢ bigSep S Ψ := bigSep_mono h

theorem sel (Φ : Fin 193 → sProp 𝕄) : bigSep Finset.univ Φ = iprop(Φ 0 ∗ bigSep Finset.univ fun x : Fin 4 × Fin 6 × Fin 8 => Φ (ci x.1 x.2.1 x.2.2)) := by
  rw [bigSep_univ_at Φ 0, ci_all, bigSep_map]
  rfl

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

/-- By layer and half, the four kinds side by side. -/
theorem kinds (Ψ : Fin 4 → Fin 6 → Fin 8 → sProp 𝕄) : (bigSep Finset.univ fun x : Fin 4 × Fin 6 × Fin 8 => Ψ x.1 x.2.1 x.2.2)
    = bigSep Finset.univ fun lh : Fin 6 => iprop(bigSep Finset.univ (Ψ 0 lh) ∗ bigSep Finset.univ (Ψ 1 lh) ∗ bigSep Finset.univ (Ψ 2 lh) ∗ bigSep Finset.univ (Ψ 3 lh)) := by
  rw [bigSep_univ_prod]
  simp only [bigSep_univ_prod (fun x : Fin 6 × Fin 8 => _)]
  rw [fin4, bigSep_sep', bigSep_sep', bigSep_sep']

def pxE (c : Dev nD) : Fin 8 ≃ Dev nD := ⟨px c, mk c, mk_px c, px_mk c⟩
/-- A family over the devices, seen from `c`. -/
theorem at_px (c : Dev nD) (Φ : Dev nD → sProp 𝕄) : bigSep Finset.univ Φ = iprop(Φ c ∗ PB fun m => Φ (px c m)) := by
  rw [bigSep_univ_equiv (pxE c) Φ, pb_univ]
  show iprop(Φ (px c 0) ∗ _) = _
  rw [px_zero]
  rfl

/-- By layer and half: the device's own index of each kind, then its peers' of each kind. -/
theorem kinds_at (c : Dev nD) (Ψ : Fin 4 → Fin 6 → Fin 8 → sProp 𝕄) : (bigSep Finset.univ fun x : Fin 4 × Fin 6 × Fin 8 => Ψ x.1 x.2.1 x.2.2)
    = bigSep Finset.univ fun lh : Fin 6 => iprop((Ψ 0 lh c ∗ PB fun m => Ψ 0 lh (px c m)) ∗ (Ψ 1 lh c ∗ PB fun m => Ψ 1 lh (px c m))
        ∗ (Ψ 2 lh c ∗ PB fun m => Ψ 2 lh (px c m)) ∗ (Ψ 3 lh c ∗ PB fun m => Ψ 3 lh (px c m))) := by
  rw [kinds]
  refine bigSep_congr fun lh _ => ?_
  rw [at_px c (Ψ 0 lh), at_px c (Ψ 1 lh), at_px c (Ψ 2 lh), at_px c (Ψ 3 lh)]

/-! ## The positions and the counters of a device's cells -/

/-- The cells at a device's own index: no copy uses them. -/
def selfAt (c : Dev nD) (lh : Fin 6) : sProp 𝕄 :=
  iprop(atPos ER (dcell c 0 lh c) 0 ∅ 0 ∗ atPos ER (dcell c 1 lh c) 0 ∅ 0 ∗ atPos ER (dcell c 2 lh c) 0 ∅ 0 ∗ atPos ER (dcell c 3 lh c) 0 ∅ 0)
def selfZ (c : Dev nD) (lh : Fin 6) : sProp 𝕄 :=
  iprop(semVal (dcell c 0 lh c) 0 ∗ semVal (dcell c 1 lh c) 0 ∗ semVal (dcell c 2 lh c) 0 ∗ semVal (dcell c 3 lh c) 0)
def posns (c : Dev nD) : sProp 𝕄 := bigSep Finset.univ fun k : Fin 193 => atPos ER (kcell (c, k)) 0 ∅ 0
def poss (c : Dev nD) (lh : Fin 6) : sProp 𝕄 := iprop(selfAt c lh ∗ aT c 0 lh ∗ aT c 1 lh ∗ aT c 2 lh ∗ aT c 3 lh)

theorem posns_split (c : Dev nD) : posns (F := F) c ⊢ iprop(atPos ER (barCell c) 0 ∅ 0 ∗ bigSep Finset.univ (poss c)) := by
  unfold posns
  rw [sel]
  refine sep_mono_right ?_
  have e : (bigSep Finset.univ fun x : Fin 4 × Fin 6 × Fin 8 => (atPos ER (kcell (c, ci x.1 x.2.1 x.2.2)) 0 ∅ 0 : sProp 𝕄))
      = bigSep Finset.univ fun x : Fin 4 × Fin 6 × Fin 8 => atPos ER (dcell c x.1 x.2.1 x.2.2) 0 ∅ 0 := bigSep_congr fun x _ => by
    show atPos ER ((c : Thread nD τ), csem _) 0 ∅ 0 = _
    rw [csem_ci]
  rw [e, kinds_at c fun k lh j => atPos ER (dcell c k lh j) 0 ∅ 0]
  refine bmono fun lh _ => ?_
  unfold poss selfAt aT
  iintro ⟨⟨H0, G0⟩, ⟨H1, G1⟩, ⟨H2, G2⟩, H3, G3⟩
  iframe G0 G1 G2 G3 H0 H1 H2 H3

/-- The kernel's own semaphores. -/
def osem : Fin 4 × Fin 6 × Fin 8 → SemLoc sig := fun x => .dma (dsem x.1 x.2.1 x.2.2)

theorem ownSems0_eq (c : Dev nD) : (Pipeline.ownSems0 (Ix := Unit) (Name := ℕ) (U := UU) (Lvl := ℕ) (Val := Elt F) (τ := τ) osem c : sProp 𝕄)
    = bigSep Finset.univ fun x : Fin 4 × Fin 6 × Fin 8 => semVal (dcell c x.1 x.2.1 x.2.2) 0 := by
  unfold Pipeline.ownSems0 osem
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 193 => semVal (kcell (c, k)) 0 : sProp 𝕄) := by
  rw [ownSems0_eq, unscopedSems0_eq, sel]
  have e : (bigSep Finset.univ fun x : Fin 4 × Fin 6 × Fin 8 => (semVal (kcell (c, ci x.1 x.2.1 x.2.2)) 0 : sProp 𝕄))
      = bigSep Finset.univ fun x : Fin 4 × Fin 6 × Fin 8 => semVal (dcell c x.1 x.2.1 x.2.2) 0 := bigSep_congr fun x _ => by
    show semVal ((c : Thread nD τ), csem _) 0 = _
    rw [csem_ci]
  rw [e]
  iintro ⟨H, HB⟩
  isplitl [HB]; · iexact HB
  iexact H

/-- All closed, they are the kernel's own semaphores again. -/
theorem zeros (c : Dev nD) : iprop(bigSep Finset.univ (selfZ (F := F) c) ∗ bigSep Finset.univ (Done c))
    ⊢ Pipeline.ownSems0 (Ix := Unit) (Name := ℕ) (U := UU) (Lvl := ℕ) (Val := Elt F) (τ := τ) osem c := by
  rw [ownSems0_eq, kinds_at c fun k lh j => semVal (dcell c k lh j) 0, ← bigSep_sep']
  refine bmono fun lh _ => ?_
  unfold selfZ Done sV
  iintro ⟨⟨H0, H1, H2, H3⟩, G0, G1, G2, G3⟩
  isplitl [H0 G0]; · iframe H0 G0
  isplitl [H1 G1]; · iframe H1 G1
  isplitl [H2 G2]; · iframe H2 G2
  iframe H3 G3

/-! ## The duties, dealt to the devices that pay them -/

def toks (c : Dev nD) : sProp 𝕄 := bigSep Finset.univ fun k : Fin 193 => bigSep Finset.univ fun d : Dev nD => dutyTok ER (kcell (c, k)) 0 d
/-- The duties of one layer and half's cells of a kind, at the device that has the cells. -/
def tokT (c : Dev nD) (k : Fin 4) (lh : Fin 6) : sProp 𝕄 := bigSep Finset.univ fun j : Dev nD => dutyTok ER (dcell c k lh j) 0 j
def tokB (c : Dev nD) : sProp 𝕄 := PB fun m => dutyTok ER (barCell (px c m)) 0 c

theorem toks_split (c : Dev nD) : toks (F := F) c
    ⊢ iprop((bigSep Finset.univ fun d : Dev nD => dutyTok ER (barCell c) 0 d) ∗ bigSep Finset.univ fun lh : Fin 6 => iprop(tokT c 0 lh ∗ tokT c 1 lh ∗ tokT c 2 lh ∗ tokT c 3 lh)) := by
  unfold toks
  rw [sel]
  refine sep_mono_right ?_
  refine (bmono (Ψ := fun x : Fin 4 × Fin 6 × Fin 8 => (dutyTok ER (dcell c x.1 x.2.1 x.2.2) 0 x.2.2 : sProp 𝕄)) fun x _ => ?_).trans ?_
  · refine (show _ ⊢ _ from bigSep_elim (Finset.mem_univ x.2.2)).trans ?_
    show (dutyTok ER ((c : Thread nD τ), csem _) 0 _ : sProp 𝕄) ⊢ _
    rw [csem_ci]
  · rw [kinds fun k lh j => dutyTok ER (dcell c k lh j) 0 j]
    exact BI.Entails.refl _

theorem tokT_own (c : Dev nD) (k lh) : tokT (F := F) c k lh ⊢ PB fun m => dutyTok ER (dcell c k lh (px c m)) 0 (px c m) := by
  unfold tokT
  rw [at_px c]
  iintro ⟨-, H⟩
  iexact H
theorem tokT_swap (k lh) : bigSep Finset.univ (fun c => tokT (F := F) c k lh) ⊢ bigSep Finset.univ fun c : Dev nD => PB fun m => dutyTok ER (dcell (px c m) k lh c) 0 c := by
  unfold tokT
  rw [BI.bigSep_univ_comm]
  refine bmono fun c _ => ?_
  rw [at_px c]
  iintro ⟨-, H⟩
  iexact H
theorem tokB_swap : bigSep Finset.univ (fun c : Dev nD => bigSep Finset.univ fun d : Dev nD => (dutyTok ER (barCell c) 0 d : sProp 𝕄)) ⊢ bigSep Finset.univ (tokB (F := F)) := by
  rw [BI.bigSep_univ_comm]
  refine bmono fun c _ => ?_
  unfold tokB
  rw [at_px c]
  iintro ⟨-, H⟩
  iexact H

theorem deal_lh (lh : Fin 6) : (bigSep Finset.univ fun c : Dev nD => iprop(tokT (F := F) c 0 lh ∗ tokT c 1 lh ∗ tokT c 2 lh ∗ tokT c 3 lh))
    ⊢ bigSep Finset.univ fun c : Dev nD => iprop(tokR c lh ∗ tokA c lh) := by
  have e (c : Dev nD) : iprop(tokR (F := F) c lh ∗ tokA c lh) = iprop(((PB fun m => dutyTok ER (dcell c 0 lh (px c m)) 0 (px c m)) ∗ (PB fun m => dutyTok ER (dcell (px c m) 1 lh c) 0 c))
      ∗ (PB fun m => dutyTok ER (dcell c 2 lh (px c m)) 0 (px c m)) ∗ (PB fun m => dutyTok ER (dcell (px c m) 3 lh c) 0 c)) := by
    unfold tokR tokA; rw [pb_sep, pb_sep]
  rw [bigSep_congr (fun c _ => e c)]
  simp only [bigSep_sep']
  iintro ⟨H0, H1, H2, H3⟩
  isplitl [H0 H1]
  · isplitl [H0]
    · iapply (show bigSep Finset.univ (fun c => tokT (F := F) c 0 lh) ⊢ _ from bigSep_mono fun c _ => tokT_own c 0 lh) $$ H0
    · iapply (tokT_swap (F := F) 1 lh) $$ H1
  · isplitl [H2]
    · iapply (show bigSep Finset.univ (fun c => tokT (F := F) c 2 lh) ⊢ _ from bigSep_mono fun c _ => tokT_own c 2 lh) $$ H2
    · iapply (tokT_swap (F := F) 3 lh) $$ H3

/-- What a device pays with. -/
def pays (c : Dev nD) : sProp 𝕄 := iprop(tokB c ∗ bigSep Finset.univ fun lh : Fin 6 => iprop(tokR c lh ∗ tokA c lh))

theorem toks_around : bigSep Finset.univ (toks (F := F)) ⊢ bigSep Finset.univ (pays (F := F)) := by
  refine (bmono fun c _ => toks_split c).trans ?_
  unfold pays
  rw [bigSep_sep', bigSep_sep', BI.bigSep_univ_comm (fun (c : Dev nD) (lh : Fin 6) => iprop(tokT c 0 lh ∗ tokT c 1 lh ∗ tokT c 2 lh ∗ tokT c 3 lh)),
    BI.bigSep_univ_comm (fun (c : Dev nD) (lh : Fin 6) => iprop(tokR c lh ∗ tokA c lh))]
  iintro ⟨HB, HT⟩
  isplitl [HB]
  · iapply (show bigSep Finset.univ (fun c : Dev nD => bigSep Finset.univ fun d : Dev nD => (dutyTok ER (barCell c) 0 d : sProp 𝕄)) ⊢ bigSep Finset.univ tokB from
      tokB_swap) $$ HB
  · iapply (show (bigSep Finset.univ fun lh : Fin 6 => bigSep Finset.univ fun c : Dev nD => iprop(tokT (F := F) c 0 lh ∗ tokT c 1 lh ∗ tokT c 2 lh ∗ tokT c 3 lh))
      ⊢ bigSep Finset.univ fun lh : Fin 6 => bigSep Finset.univ fun c : Dev nD => iprop(tokR c lh ∗ tokA c lh) from bigSep_mono fun lh _ => deal_lh lh) $$ HT

/-! ## The launch element -/

theorem csem_inj : Function.Injective csem := by
  intro i j h
  unfold csem at h
  apply Fin.ext
  split at h <;> split at h
  · omega
  · cases h
  · cases h
  · have h' := congrArg (fun s : SemLoc sig => match s with | .dma q => q.val | .reg _ => 0) h
    simp only at h'
    omega
theorem kcell_inj : Function.Injective kcell := by
  rintro ⟨c, k⟩ ⟨c', k'⟩ h
  have h1 : c = c' := congrArg (fun g : GSem nD τ sig => g.1.1) h
  have h2 : csem k = csem k' := congrArg Prod.snd h
  exact Prod.ext h1 (csem_inj h2)
def allCells : Finset (GSem nD τ sig) := Finset.univ.map ⟨kcell, kcell_inj⟩

def tokOf (x : (Dev nD × Fin 193) × Dev nD) : GSem nD τ sig × ℕ × D := (kcell x.1, 0, x.2)
theorem tokOf_inj : Function.Injective tokOf := by
  rintro ⟨x, d⟩ ⟨x', d'⟩ h
  have h1 : kcell x = kcell x' := congrArg Prod.fst h
  have h2 : d = d' := congrArg (fun y => y.2.2) h
  exact Prod.ext (kcell_inj h1) h2
def allToks : Finset (GSem nD τ sig × ℕ × D) := Finset.univ.map ⟨tokOf, tokOf_inj⟩

def u₀ : UU := (initOf (Pipeline.cells cfgs cellOf_inj) (Pipeline.launchToks cfgs cellOf_inj), initOf allCells allToks)

end Sorted

variable (I : Inp F)

/-- What the launch element deals a device. -/
def G (c : Dev nD) : sProp 𝕄 :=
  iprop((bigSep Finset.univ fun k : Fin 193 => roundState ER (rd I) (kcell (c, k)) 0)
    ∗ (bigSep Finset.univ fun k : Fin 193 => reached ER (kcell (c, k)) 0) ∗ posns c ∗ toks c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 193 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (rd I) allCells allToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (rd I) κ (kcell (c, k))))
          ∗ (bigSep Finset.univ fun k : Fin 193 => reached ER (kcell (c, k)) 0) ∗ posns c ∗ toks c) := by
  unfold G
  iintro ⟨Hos, Hus, Hst, Hr, Hat, Htok⟩
  ihave Hv := (sems0_eq (F := F) c) $$ [Hos Hus]
  · isplitl [Hos] <;> iassumption
  imod (show iprop((bigSep Finset.univ fun k : Fin 193 => semVal (kcell (c, k)) 0) ∗ bigSep Finset.univ fun k : Fin 193 => roundState ER (rd I) (kcell (c, k)) 0)
      ⊢ (|={Set.univ}=> bigSep Finset.univ fun k => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

def known (K : Dev nD × Fin 193 → ℕ) : sProp 𝕄 := bigSep Finset.univ fun ck => iprop(cellInv ER (rd I) (K ck) (kcell ck) ∗ reached ER (kcell ck) 0)
instance known_persistent (K) : BI.Persistent (known I K) := by unfold known; infer_instance

def G' (c : Dev nD) : sProp 𝕄 := iprop(∃ K, known I K ∗ posns c ∗ pays c)

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd I) κ (kcell (c, k))))
          ∗ (bigSep Finset.univ fun k : Fin 193 => reached ER (kcell (c, k)) 0) ∗ posns c ∗ toks c) : sProp 𝕄)
      ⊢ bigSep Finset.univ (G' I) := by
  rw [bigSep_sep', bigSep_sep', bigSep_sep', ← bigSep_univ_prod (fun ck : Dev nD × Fin 193 => iprop(∃ κ : ℕ, cellInv ER (rd I) κ (kcell ck))),
    ← bigSep_univ_prod (fun ck : Dev nD × Fin 193 => (reached ER (kcell ck) 0 : sProp 𝕄))]
  iintro ⟨HI, HR, Hat, Htok⟩
  ihave HK := (BI.bigSep_exists_pi Finset.univ (fun (ck : Dev nD × Fin 193) (κ : ℕ) => (cellInv ER (rd I) κ (kcell ck) : sProp 𝕄))) $$ HI
  icases HK with ⟨%K, HI⟩
  ihave Htk := (toks_around (F := F)) $$ Htok
  iapply (with_persistent (R := known I K) (Φ := fun c : Dev nD => iprop(posns c ∗ pays c)) fun c _ => show iprop(known I K ∗ posns c ∗ pays c) ⊢ G' I c from by
    unfold G'
    iintro H
    iexists K
    iexact H)
  rw [bigSep_sep']
  unfold known
  rw [bigSep_sep']
  iframe HI HR
  isplitl [Hat]; · iexact Hat
  iexact Htk

/-- The global step: the counters of every device become its cells. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

theorem sum_owed (ws : List Code) (g : GSem nD τ sig) : (∑ d : Dev nD, owed d ws g ()) = (ws.map fun x => ∑ d : Dev nD, if g = x.cell d then x.amt else 0).sum := by
  induction ws with
  | nil => simp [owed]
  | cons x l ih =>
    rw [List.map_cons, List.sum_cons, ← ih, add_comm, ← Finset.sum_add_distrib]
    refine Finset.sum_congr rfl fun d _ => ?_
    rw [owed, Pi.add_apply, Finsupp.add_apply, tallyAt_apply]
    simp only [and_true]

/-- The code of a copy of one kind, of one layer and half, to the peer at a mask. -/
def isRs (lh : Fin 6) (m : Fin 8) : Code → Bool
  | .rs lh' m' => lh' == lh && m' == m
  | _ => false
def isAg (lh : Fin 6) (m : Fin 8) : Code → Bool
  | .ag lh' m' => lh' == lh && m' == m
  | _ => false
def isBar : Code → Bool
  | .bar _ => true
  | _ => false

theorem count_rs (lh : Fin 6) (m : Fin 8) (hm : m ≠ 0) : (duesB.countP (isRs lh m)) = 1 := by revert lh m; decide +kernel
theorem count_ag (lh : Fin 6) (m : Fin 8) (hm : m ≠ 0) : (duesB.countP (isAg lh m)) = 1 := by revert lh m; decide +kernel
theorem count_bar : (duesB.countP isBar) = 7 := by decide +kernel

theorem dcell_inj {c c' : Dev nD} {k k' lh lh' j j'} (h : dcell c k lh j = dcell c' k' lh' j') : c = c' ∧ k = k' ∧ lh = lh' ∧ j = j' := by
  have h1 : c = c' := congrArg (fun g : GSem nD τ sig => g.1.1) h
  have h2 : dsem k lh j = dsem k' lh' j' := by
    have := congrArg Prod.snd h
    exact SemLoc.dma.inj this
  refine ⟨h1, ?_, ?_, ?_⟩
  · have := congrArg dk h2; rw [dk_dsem, dk_dsem] at this; exact Fin.ext this
  · have := congrArg dlh h2; rw [dlh_dsem, dlh_dsem] at this; exact this
  · have := congrArg dj h2; rw [dj_dsem, dj_dsem] at this; exact this
theorem dcell_ne_bar {c c' : Dev nD} {k lh j} : dcell c k lh j ≠ barCell c' := fun h => by
  have := congrArg Prod.snd h
  cases this

theorem sum_count (p : Code → Bool) (f : Code → ℕ) (n : ℕ) (hf : ∀ x, f x = if p x then n else 0) (ws : List Code) : (ws.map f).sum = n * ws.countP p := by
  induction ws with
  | nil => simp
  | cons x l ih =>
    rw [List.map_cons, List.sum_cons, ih, List.countP_cons, hf]
    split
    · rw [Nat.mul_add, mul_one, Nat.add_comm]
    · rw [Nat.zero_add, Nat.add_zero]

theorem due_rs (c : Dev nD) (lh : Fin 6) (m : Fin 8) (hm : m ≠ 0) : (∑ d : Dev nD, owed d duesB (dcell c 1 lh (px c m)) ()) = N := by
  rw [sum_owed, sum_count (isRs lh m) _ N ?_, count_rs lh m hm, mul_one]
  rintro (m' | ⟨lh', m'⟩ | ⟨lh', m'⟩)
  · refine (Finset.sum_eq_zero fun d _ => if_neg ?_).trans (if_neg (by simp [isRs])).symm
    exact dcell_ne_bar
  · by_cases h : lh' = lh ∧ m' = m
    · obtain ⟨rfl, rfl⟩ := h
      rw [if_pos (by simp [isRs])]
      refine (Finset.sum_eq_single (px c m') (fun d _ hd => if_neg fun h => hd ?_) (fun h => absurd (Finset.mem_univ _) h)).trans (if_pos ?_)
      · exact (dcell_inj h).2.2.2.symm
      · show _ = dcell (px (px c m') m') 1 lh' (px c m'); rw [px_px]
    · rw [if_neg (by simpa [isRs] using h)]
      refine Finset.sum_eq_zero fun d _ => if_neg fun h' => h ?_
      obtain ⟨h1, -, h3, h4⟩ := dcell_inj h'
      refine ⟨h3.symm, px_inj d ?_⟩
      rw [← h1, ← h4, px_px]
  · refine (Finset.sum_eq_zero fun d _ => if_neg ?_).trans (if_neg (by simp [isRs])).symm
    exact fun h => absurd (dcell_inj h).2.1 (by decide)
theorem due_ag (c : Dev nD) (lh : Fin 6) (m : Fin 8) (hm : m ≠ 0) : (∑ d : Dev nD, owed d duesB (dcell c 3 lh (px c m)) ()) = N := by
  rw [sum_owed, sum_count (isAg lh m) _ N ?_, count_ag lh m hm, mul_one]
  rintro (m' | ⟨lh', m'⟩ | ⟨lh', m'⟩)
  · refine (Finset.sum_eq_zero fun d _ => if_neg ?_).trans (if_neg (by simp [isAg])).symm
    exact dcell_ne_bar
  · refine (Finset.sum_eq_zero fun d _ => if_neg ?_).trans (if_neg (by simp [isAg])).symm
    exact fun h => absurd (dcell_inj h).2.1 (by decide)
  · by_cases h : lh' = lh ∧ m' = m
    · obtain ⟨rfl, rfl⟩ := h
      rw [if_pos (by simp [isAg])]
      refine (Finset.sum_eq_single (px c m') (fun d _ hd => if_neg fun h => hd ?_) (fun h => absurd (Finset.mem_univ _) h)).trans (if_pos ?_)
      · exact (dcell_inj h).2.2.2.symm
      · show _ = dcell (px (px c m') m') 3 lh' (px c m'); rw [px_px]
    · rw [if_neg (by simpa [isAg] using h)]
      refine Finset.sum_eq_zero fun d _ => if_neg fun h' => h ?_
      obtain ⟨h1, -, h3, h4⟩ := dcell_inj h'
      refine ⟨h3.symm, px_inj d ?_⟩
      rw [← h1, ← h4, px_px]
theorem due_bar (c : Dev nD) : (∑ d : Dev nD, owed d duesB (barCell c) ()) = 7 := by
  rw [sum_owed, sum_count isBar _ 1 ?_, count_bar]
  rintro (m' | ⟨lh', m'⟩ | ⟨lh', m'⟩)
  · refine Eq.trans ?_ (if_pos rfl).symm
    refine (Finset.sum_eq_single (px c m') (fun d _ hd => if_neg fun h => hd ?_) (fun h => absurd (Finset.mem_univ _) h)).trans (if_pos ?_)
    · have h1 : c = px d m' := congrArg (fun g : GSem nD τ sig => g.1.1) h
      rw [h1, px_px]
    · show _ = barCell (px (px c m') m'); rw [px_px]
  · exact (Finset.sum_eq_zero fun d _ => if_neg dcell_ne_bar.symm).trans (if_neg (by simp [isBar])).symm
  · exact (Finset.sum_eq_zero fun d _ => if_neg dcell_ne_bar.symm).trans (if_neg (by simp [isBar])).symm

theorem launch_of {g : GSem nD τ sig} {n : ℕ} (h : (∑ d : Dev nD, owed d duesB g ()) = n) :
    tallyOn g (launchCredit (Pipeline.owing fun d => owed d duesB) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred (fun d => owed d duesB) c : sProp 𝕄)
    ⊢ iprop(cred (tallyAt (barCell c) () 7) ∗ bigSep Finset.univ fun lh : Fin 6 => iprop(PB (crd c 1 lh) ∗ PB (crd c 3 lh))) := by
  unfold Pipeline.launchCred
  refine (BI.bigSep_subset (Finset.subset_univ (Finset.univ.map ⟨csem, csem_inj⟩))).trans ?_
  rw [bigSep_map, sel]
  have eB : (cred (tallyOn ((c : Thread nD τ), csem 0) (launchCredit (Pipeline.owing fun d => owed d duesB) 0 ((c : Thread nD τ), csem 0))) : sProp 𝕄) = cred (tallyAt (barCell c) () 7) := by
    show (cred (tallyOn (barCell c) (launchCredit (Pipeline.owing fun d => owed d duesB) 0 (barCell c))) : sProp 𝕄) = _
    rw [launch_of (due_bar c)]
  refine (show _ ⊢ _ from sep_mono_left (Entails.of_eq eB)).trans (sep_mono_right ?_)
  · have e : (bigSep Finset.univ fun x : Fin 4 × Fin 6 × Fin 8 => (cred (tallyOn ((c : Thread nD τ), csem (ci x.1 x.2.1 x.2.2)) (launchCredit (Pipeline.owing fun d => owed d duesB) 0 ((c : Thread nD τ), csem (ci x.1 x.2.1 x.2.2)))) : sProp 𝕄))
        = bigSep Finset.univ fun x : Fin 4 × Fin 6 × Fin 8 => cred (tallyOn (dcell c x.1 x.2.1 x.2.2) (launchCredit (Pipeline.owing fun d => owed d duesB) 0 (dcell c x.1 x.2.1 x.2.2))) := bigSep_congr fun x _ => by
      rw [csem_ci]
    refine (Entails.of_eq e).trans ?_
    rw [kinds_at c fun k lh j => cred (tallyOn (dcell c k lh j) (launchCredit (Pipeline.owing fun d => owed d duesB) 0 (dcell c k lh j)))]
    refine bmono fun lh _ => ?_
    iintro ⟨-, ⟨-, H1⟩, -, -, H3⟩
    isplitl [H1]
    · iapply (Entails.of_eq (show (PB fun m => (cred (tallyOn (dcell c 1 lh (px c m)) (launchCredit (Pipeline.owing fun d => owed d duesB) 0 (dcell c 1 lh (px c m)))) : sProp 𝕄)) = PB (crd c 1 lh) from
        bigSep_congr fun m hm => by unfold crd; rw [launch_of (due_rs c lh m (mem_peers.mp hm))])) $$ H1
    · iapply (Entails.of_eq (show (PB fun m => (cred (tallyOn (dcell c 3 lh (px c m)) (launchCredit (Pipeline.owing fun d => owed d duesB) 0 (dcell c 3 lh (px c m)))) : sProp 𝕄)) = PB (crd c 3 lh) from
        bigSep_congr fun m hm => by unfold crd; rw [launch_of (due_ag c lh m (mem_peers.mp hm))])) $$ H3

/-! ## What a device's body starts from -/

/-- The invariants, its positions, the duties it pays, the credits it waits with. -/
def start (c : Dev nD) : sProp 𝕄 :=
  iprop(∃ K, recs I K ∗ barTodo c ∗ tokB c ∗ bigSep Finset.univ (selfAt c) ∗ bigSep Finset.univ (U (F := F) c))

theorem start_of (c : Dev nD) : iprop(levAts L lv ∗ Pipeline.launchCred (fun d => owed d duesB) c ∗ G' I c) ⊢ start I c := by
  unfold G' start pays barTodo
  iintro ⟨Hl, Hc, %K, HK, Hp, Hb, Ht⟩
  ihave Hc := (creds c) $$ Hc
  ihave Hp := (posns_split c) $$ Hp
  icases Hc with ⟨HcB, Hc⟩
  icases Hp with ⟨HpB, Hp⟩
  iexists K
  isplitl [Hl HK]
  · unfold recs; isplitl [Hl]; · iexact Hl
    unfold known
    iexact HK
  isplitl [HcB HpB]; · iframe HcB HpB
  isplitl [Hb]; · iexact Hb
  iapply (show iprop(bigSep Finset.univ (fun lh : Fin 6 => iprop(PB (crd (F := F) c 1 lh) ∗ PB (crd c 3 lh))) ∗ bigSep Finset.univ (poss c) ∗ bigSep Finset.univ (fun lh : Fin 6 => iprop(tokR c lh ∗ tokA c lh)))
      ⊢ iprop(bigSep Finset.univ (selfAt c) ∗ bigSep Finset.univ (U c)) from by
    rw [← bigSep_sep', ← bigSep_sep', ← bigSep_sep']
    refine bmono fun lh _ => ?_
    unfold poss U
    rw [wT_eq, wT_eq]
    iintro ⟨⟨H1, H3⟩, ⟨Hs, A0, A1, A2, A3⟩, HR, HA⟩
    isplitl [Hs]; · iexact Hs
    iframe H1 H3 A0 A1 A2 A3 HR HA)
  iframe Hc Hp Ht

/-- The cells at a device's own index close at once. -/
theorem close_self (K : Dev nD × Fin 193 → ℕ) (c : Dev nD) : iprop(recs I K ∗ bigSep Finset.univ (selfAt (F := F) c)) ⊢ |={Set.univ}=> bigSep Finset.univ (selfZ c) := by
  have h1 (k lh) : iprop(recs I K ∗ atPos ER (dcell c k lh c) 0 ∅ 0) ⊢ (|={Set.univ}=> semVal (dcell c k lh c) 0 : sProp 𝕄) := by
    iintro ⟨HK, Ha⟩
    ihave HK := (recs_dma I K c k lh c) $$ HK
    icases HK with ⟨HK, -⟩
    iapply (Rounds.cell_close ER (rd I) (Set.mem_univ (K (c, ci k lh c))) (fun h => h) (R := 0) (fun r _ => by
      rcases Nat.eq_zero_or_pos r with rfl | hr
      · exact duties_self I c k lh
      · exact duties_later I _ r hr))
    isplitl [HK] <;> iassumption
  refine (with_persistent (R := recs I K) (Ψ := fun lh => iprop(|={Set.univ}=> selfZ c lh)) fun lh _ => ?_).trans (bigSep_fupd _ _)
  unfold selfAt selfZ
  iintro ⟨#HK, H0, H1, H2, H3⟩
  imod (h1 0 lh) $$ [HK H0] with Z0
  · isplitr; · iexact HK
    iexact H0
  imod (h1 1 lh) $$ [HK H1] with Z1
  · isplitr; · iexact HK
    iexact H1
  imod (h1 2 lh) $$ [HK H2] with Z2
  · isplitr; · iexact HK
    iexact H2
  imod (h1 3 lh) $$ [HK H3] with Z3
  · isplitr; · iexact HK
    iexact H3
  imodintro
  iframe Z0 Z1 Z2 Z3

end Cert.KProof
-- ==== Proof.Launch.lean ====
/-
  The run: the buffers cut into the rooms the body moves and put together again, the proof data of the launch, the body obligation, the whole run for any float values.
-/
module

public import proofs.«01_k».proof.Proof.Deal
public import proofs.«01_k».proof.Proof.Gen.KernelIdeal.Launch
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## The scratch buffers, cut and joined -/

section Rooms
omit [FloatOps F]

theorem halves : (Finset.univ : Finset S2x512x256.Idx) = halfSet 0 ∪ halfSet 1 := by
  ext i
  have : (i 0).val < 2 := (i 0).isLt
  simp only [Finset.mem_univ, Finset.mem_union, mem_halfSet, true_iff]
  omega
theorem halves_disj : Disjoint (halfSet 0) (halfSet 1) := by
  rw [Finset.disjoint_left]
  intro i h h'
  rw [mem_halfSet] at h h'
  omega
theorem slots_all : (Finset.univ : Finset S2x8x64x256.Idx) = Finset.univ.biUnion fun x : Fin 2 × Fin 8 => slotSet x.1.val x.2 := by
  ext i
  simp only [Finset.mem_univ, Finset.mem_biUnion, mem_slotSet, true_iff, true_and]
  exact ⟨(i 0, i 1), rfl, rfl⟩
theorem slots_disj (x y : Fin 2 × Fin 8) (h : x ≠ y) : Disjoint (slotSet x.1.val x.2) (slotSet y.1.val y.2) := by
  rw [Finset.disjoint_left]
  intro i hi hi'
  rw [mem_slotSet] at hi hi'
  exact h (Prod.ext (Fin.ext (hi.1.symm.trans hi'.1)) (Fin.ext (hi.2.symm.trans hi'.2)))

theorem h_cut (c : Dev nD) (f : S2x512x256.Idx → Elt F .bf16) : hPts c Finset.univ f ⊢ iprop(hPts c (halfSet 0) f ∗ hPts c (halfSet 1) f) := by
  rw [halves]; exact (pointsTo_union halves_disj).1
theorem g_cut (c : Dev nD) (f : S2x512x256.Idx → Elt F .bf16) : gPts c Finset.univ fullShare f ⊢ iprop(gPts c (halfSet 0) fullShare f ∗ gPts c (halfSet 1) fullShare f) := by
  rw [halves]; exact (pointsTo_union halves_disj).1
theorem h_join (c : Dev nD) (f g : S2x512x256.Idx → Elt F .bf16) : iprop(hPts c (halfSet 0) f ∗ hPts c (halfSet 1) g) ⊢ iprop(∃ f, hPts c Finset.univ f) := by
  rw [halves]
  iintro H
  iexists _
  iapply (pointsTo_join halves_disj) $$ H
theorem g_join (c : Dev nD) (f g : S2x512x256.Idx → Elt F .bf16) : iprop(gPts c (halfSet 0) fullShare f ∗ gPts c (halfSet 1) fullShare g) ⊢ iprop(∃ f, gPts c Finset.univ fullShare f) := by
  rw [halves]
  iintro H
  iexists _
  iapply (pointsTo_join halves_disj) $$ H

theorem fin2 (Φ : Fin 2 → sProp 𝕄) : bigSep Finset.univ Φ = iprop(Φ 0 ∗ Φ 1) := bigSep_univ_eq_bigSepL [0, 1] (by decide) (by decide) Φ

/-- Slot by slot, at some contents. -/
theorem slots_fin (c : Dev nD) (Φ : ℕ → Fin 8 → sProp 𝕄) : (bigSep Finset.univ fun x : Fin 2 × Fin 8 => Φ x.1.val x.2)
    = iprop((Φ 0 c ∗ PB fun m => Φ 0 (px c m)) ∗ (Φ 1 c ∗ PB fun m => Φ 1 (px c m))) := by
  rw [bigSep_univ_prod (fun x : Fin 2 × Fin 8 => Φ x.1.val x.2), fin2, at_px c (fun j => Φ (0 : Fin 2).val j), at_px c (fun j => Φ (1 : Fin 2).val j)]
  rfl
theorem r_cut (c : Dev nD) (f : S2x8x64x256.Idx → Elt F .bf16) :
    rPts c Finset.univ f ⊢ iprop(((∃ f, rPts c (slotSet 0 c) f) ∗ PB fun m => iprop(∃ f, rPts c (slotSet 0 (px c m)) f))
      ∗ ((∃ f, rPts c (slotSet 1 c) f) ∗ PB fun m => iprop(∃ f, rPts c (slotSet 1 (px c m)) f))) := by
  have e : rPts c Finset.univ f = bigSep Finset.univ fun x : Fin 2 × Fin 8 => rPts c (slotSet x.1.val x.2) f := by
    rw [slots_all]
    exact pointsTo_biUnion _ _ fun x _ y _ h => slots_disj x y h
  rw [e, ← slots_fin c fun h j => iprop(∃ f, rPts c (slotSet h j) f)]
  refine bmono fun x _ => ?_
  iintro H
  iexists f
  iexact H
theorem r_join (c : Dev nD) (f₀ : S2x8x64x256.Idx → Elt F .bf16) :
    iprop(((∃ f, rPts (F := F) c (slotSet 0 c) f) ∗ PB fun m => iprop(∃ f, rPts c (slotSet 0 (px c m)) f))
      ∗ ((∃ f, rPts c (slotSet 1 c) f) ∗ PB fun m => iprop(∃ f, rPts c (slotSet 1 (px c m)) f))) ⊢ iprop(∃ f, rPts c Finset.univ f) := by
  rw [← slots_fin c fun h j => iprop(∃ f, rPts c (slotSet h j) f)]
  haveI : Nonempty (S2x8x64x256.Idx → Elt F .bf16) := ⟨f₀⟩
  iintro H
  ihave H := (BI.bigSep_exists_pi Finset.univ (fun (x : Fin 2 × Fin 8) (f : S2x8x64x256.Idx → Elt F .bf16) => (rPts c (slotSet x.1.val x.2) f : sProp 𝕄))) $$ H
  icases H with ⟨%fs, H⟩
  ihave H := (pointsTo_biUnion_join (ℓ := (c : Thread nD τ).loc cc0_scratch1) (q := fullShare) Finset.univ (fun x : Fin 2 × Fin 8 => slotSet x.1.val x.2) fs (fs (0, 0))
    fun x _ y _ h => slots_disj x y h) $$ H
  icases H with ⟨%g, -, H⟩
  iexists g
  iapply (Entails.of_eq (by rw [slots_all])) $$ H

/-- The three scratch buffers, each whole at some contents. -/
def scr (c : Dev nD) : sProp 𝕄 := iprop((∃ f, hPts (F := F) c Finset.univ f) ∗ (∃ f, rPts (F := F) c Finset.univ f) ∗ (∃ f, gPts (F := F) c Finset.univ fullShare f))

end Rooms

theorem g_rooms (c : Dev nD) (h : ℕ) (f : S2x512x256.Idx → Elt F .bf16) : gPts c (halfSet h) fullShare f ⊢ iprop(gOwn c h ∗ gP c h) := by
  rw [g_half]
  unfold gOwn gP
  iintro ⟨H0, H1⟩
  isplitl [H0]
  · iexists f; iexact H0
  · iapply (show (PB fun m => gPts c (chunkSet h (pos (px c m))) fullShare f) ⊢ PB fun m => iprop(∃ f, gPts c (chunkSet h (pos (px c m))) fullShare f) from
      pb_mono fun m => by
        show gPts c (chunkSet h (pos (px c m))) fullShare f ⊢ _
        iintro H
        iexists f
        iexact H) $$ H1

theorem some_slots (c : Dev nD) (h : ℕ) (f : S2x8x64x256.Idx → Elt F .bf16) : (PB fun m => rPts c (slotSet h (px c m)) f) ⊢ PB fun m => iprop(∃ f, rPts c (slotSet h (px c m)) f) :=
  pb_mono fun m => by
    show rPts c (slotSet h (px c m)) f ⊢ _
    iintro H
    iexists f
    iexact H

theorem uSix (c : Dev nD) : bigSep Finset.univ (U (F := F) c) = iprop(U c 0 ∗ U c 1 ∗ U c 2 ∗ U c 3 ∗ U c 4 ∗ U c 5) := fin6 _

/-- What the body is left holding that it never touches. -/
def idle (c : Dev nD) : sProp 𝕄 := iprop((∃ f, rPts (F := F) c (slotSet 0 c) f) ∗ (∃ f, rPts (F := F) c (slotSet 1 c) f) ∗ bigSep Finset.univ (selfZ (F := F) c))

variable (I : Inp F)

/-- The body's state at its start. -/
theorem enter (K : Dev nD × Fin 193 → ℕ) (c : Dev nD) :
    iprop(recs I K ∗ inp I c ∗ ow c duesB ∗ barTodo c ∗ tokB c ∗ bigSep Finset.univ (selfZ c) ∗ bigSep Finset.univ (U c) ∗ scr c ∗ (∃ f, oPts (F := F) c f))
      ⊢ ST I K c duesB (bigSepL asc (sigTodo c)) (bigSepL [] (sigTodo c)) iprop(barTodo c ∗ (∃ f, hPts c (halfSet ((0 : Fin 6).val % 2)) f) ∗ TP c 0 0 2 4
        ∗ (∃ f, hPts c (halfSet ((1 : Fin 6).val % 2)) f) ∗ TP c 1 1 3 5 ∗ (∃ f, oPts c f) ∗ idle c) := by
  rw [nil_eq, ← pb_asc, uSix]
  unfold ST scr tokB idle TP
  iintro ⟨HK, Hi, Ho, Hb, Ht, Hz, ⟨U0, U1, U2, U3, U4, U5⟩, ⟨⟨%fh, Hh⟩, ⟨%fr, Hr⟩, %fg, Hg⟩, HO⟩
  ihave Hh := (h_cut c fh) $$ Hh
  icases Hh with ⟨Hh0, Hh1⟩
  ihave Hg := (g_cut c fg) $$ Hg
  icases Hg with ⟨Hg0, Hg1⟩
  ihave Hg0 := (g_rooms c 0 fg) $$ Hg0
  ihave Hg1 := (g_rooms c 1 fg) $$ Hg1
  icases Hg0 with ⟨Hg0, Hp0⟩
  icases Hg1 with ⟨Hg1, Hp1⟩
  ihave Hr := (r_cut c fr) $$ Hr
  icases Hr with ⟨⟨Hs0, Hr0⟩, Hs1, Hr1⟩
  isplitl [HK]; · iexact HK
  isplitl [Hi]; · iexact Hi
  isplitl [Ho]; · iexact Ho
  isplitl [Ht Hr0 Hr1]
  · iapply (show iprop((PB fun m => dutyTok ER (barCell (px c m)) 0 c) ∗ (PB fun m => iprop(∃ f, rPts (F := F) c (slotSet 0 (px c m)) f)) ∗ (PB fun m => iprop(∃ f, rPts c (slotSet 1 (px c m)) f)))
        ⊢ PB (sigTodo c) from by
      rw [← pb_sep, ← pb_sep]
      exact BI.Entails.refl _)
    iframe Ht Hr0 Hr1
  isplitr; · iempintro
  isplitl [Hb]; · iexact Hb
  isplitl [Hh0]; · iexists fh; iexact Hh0
  isplitl [Hg0 Hp0 U0 U2 U4]
  · iframe Hg0 Hp0 U0 U2 U4
  isplitl [Hh1]; · iexists fh; iexact Hh1
  isplitl [Hg1 Hp1 U1 U3 U5]
  · iframe Hg1 Hp1 U1 U3 U5
  isplitl [HO]; · iexact HO
  iframe Hs0 Hs1 Hz

/-- The kernel's own semaphores at zero, the barrier's too, and the scratch buffers. -/
def Φ₁ (c : Dev nD) : sProp 𝕄 :=
  iprop(scr c ∗ Pipeline.ownSems0 (Ix := Unit) (Name := ℕ) (U := UU) (Lvl := ℕ) (Val := Elt F) (τ := τ) osem c ∗ semVal (barCell c) 0)

/-- The body's state at its end. -/
theorem leave (K : Dev nD × Fin 193 → ℕ) (c : Dev nD) :
    ST I K c [] (bigSepL [] (wTodo c 0 0)) (bigSepL [] (wTodo c 0 0)) iprop(hPts c (halfSet ((4 : Fin 6).val % 2)) (HH I ((4 : Fin 6).val / 2) c) ∗ TF c I 4 iprop(Done c 0 ∗ Done c 2)
        ∗ hPts c (halfSet ((5 : Fin 6).val % 2)) (HH I ((5 : Fin 6).val / 2) c) ∗ TF c I 5 iprop(Done c 1 ∗ Done c 3) ∗ oPts c (outV I c) ∗ semVal (barCell c) 0 ∗ idle c)
      ⊢ iprop(inp I c ∗ ow c [] ∗ oPts c (outV I c) ∗ Φ₁ c) := by
  unfold ST TF slots idle Φ₁ scr
  iintro ⟨-, Hi, Ho, -, -, Hh0, ⟨Hg0, Hr0, D4, D0, D2⟩, Hh1, ⟨Hg1, Hr1, D5, D1, D3⟩, HO, Hb, Hs0, Hs1, Hz⟩
  isplitl [Hi]; · iexact Hi
  isplitl [Ho]; · iexact Ho
  isplitl [HO]; · iexact HO
  isplitr [D0 D1 D2 D3 D4 D5 Hz Hb]
  · isplitl [Hh0 Hh1]
    · iapply (h_join c (HH I ((4 : Fin 6).val / 2) c) (HH I ((5 : Fin 6).val / 2) c))
      isplitl [Hh0]; · iexact Hh0
      iexact Hh1
    isplitl [Hr0 Hr1 Hs0 Hs1]
    · iapply (r_join c (RR I 2 c))
      ihave Hr0 := (show (PB fun m => rPts c (slotSet ((4 : Fin 6).val % 2) (px c m)) (RR I ((4 : Fin 6).val / 2) c)) ⊢ _ from some_slots c 0 (RR I ((4 : Fin 6).val / 2) c)) $$ Hr0
      ihave Hr1 := (show (PB fun m => rPts c (slotSet ((5 : Fin 6).val % 2) (px c m)) (RR I ((5 : Fin 6).val / 2) c)) ⊢ _ from some_slots c 1 (RR I ((5 : Fin 6).val / 2) c)) $$ Hr1
      isplitl [Hs0 Hr0]
      · isplitl [Hs0]; · iexact Hs0
        iexact Hr0
      · isplitl [Hs1]; · iexact Hs1
        iexact Hr1
    · iapply (g_join c (GG I ((4 : Fin 6).val / 2)) (GG I ((5 : Fin 6).val / 2)))
      isplitl [Hg0]; · iexact Hg0
      iexact Hg1
  isplitr [Hb]; swap; · iexact Hb
  iapply (zeros (F := F) c)
  isplitl [Hz]; · iexact Hz
  iapply (Entails.of_eq (fin6 (F := F) (Done c)).symm)
  iframe D0 D1 D2 D3 D4 D5

/-! ## The proof data -/

variable (m : (ℓ : Loc nD τ sig) → Buf (Elt F) ℓ) (ρ : Dev nD → PrngReg)

abbrev s₀ : MemSt nD τ sig (Elt F) := ⟨m, fun _ => 0, ρ⟩

/-- The inputs as the launch memory has them. -/
def inpOf : Inp F where
  x c := (win0_0.blk (0 : Fin 1)).view.read (Elt F) (m ((c : Thread nD τ).loc main_arg0))
  win l c := match l with
    | 0 => (win0_1.blk (0 : Fin 1)).view.read (Elt F) (m ((c : Thread nD τ).loc main_arg1))
    | 1 => (win0_3.blk (0 : Fin 1)).view.read (Elt F) (m ((c : Thread nD τ).loc main_arg2))
    | _ + 2 => (win0_5.blk (0 : Fin 1)).view.read (Elt F) (m ((c : Thread nD τ).loc main_arg3))
  wout l c := match l with
    | 0 => (win0_2.blk (0 : Fin 1)).view.read (Elt F) (m ((c : Thread nD τ).loc main_arg4))
    | 1 => (win0_4.blk (0 : Fin 1)).view.read (Elt F) (m ((c : Thread nD τ).loc main_arg5))
    | _ + 2 => (win0_6.blk (0 : Fin 1)).view.read (Elt F) (m ((c : Thread nD τ).loc main_arg6))

def Φ₀ (c : Dev nD) : sProp 𝕄 := iprop(start (inpOf m) c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inpOf m).x c
    | ⟨1, _⟩ => (inpOf m).win 0 c
    | ⟨2, _⟩ => (inpOf m).wout 0 c
    | ⟨3, _⟩ => (inpOf m).win 1 c
    | ⟨4, _⟩ => (inpOf m).wout 1 c
    | ⟨5, _⟩ => (inpOf m).win 2 c
    | ⟨6, _⟩ => (inpOf m).wout 2 c
    | ⟨7, _⟩ => outV (inpOf m) c
  Φ t := match t with
    | ⟨0, _⟩ => Φ₀ m c
    | ⟨_ + 1, _⟩ => Φ₁ c
  q _ := fullShare
  owed t := match t with
    | ⟨0, _⟩ => owed c duesB
    | ⟨_ + 1, _⟩ => 0

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))
    ∗ (∃ d, stg c cc0_stg7_0 ((dats m ρ 0 c).before (7 : Fin 8) t₀ d)))
def bodyPost (c : Dev nD) : sProp 𝕄 :=
  iprop(Φ₁ c ∗ (dats m ρ 0 c).owesAt () t₀.succ ∗ stg c cc0_stg0_0 ((inpOf m).x c) ∗ stg c cc0_stg1_0 ((inpOf m).win 0 c) ∗ stg c cc0_stg2_0 ((inpOf m).wout 0 c)
    ∗ stg c cc0_stg3_0 ((inpOf m).win 1 c) ∗ stg c cc0_stg4_0 ((inpOf m).wout 1 c) ∗ stg c cc0_stg5_0 ((inpOf m).win 2 c) ∗ stg c cc0_stg6_0 ((inpOf m).wout 2 c)
    ∗ stg c cc0_stg7_0 (outV (inpOf m) c))

/-- The staged inputs, as the body reads them. -/
theorem inputs (c : Dev nD) : iprop((∃ d, stg c cc0_stg0_0 ((dats m ρ 0 c).before (0 : Fin 8) t₀ d))
    ∗ (∃ d, stg c cc0_stg1_0 ((dats m ρ 0 c).before (1 : Fin 8) t₀ d))
    ∗ (∃ d, stg c cc0_stg2_0 ((dats m ρ 0 c).before (2 : Fin 8) t₀ d))
    ∗ (∃ d, stg c cc0_stg3_0 ((dats m ρ 0 c).before (3 : Fin 8) t₀ d))
    ∗ (∃ d, stg c cc0_stg4_0 ((dats m ρ 0 c).before (4 : Fin 8) t₀ d))
    ∗ (∃ d, stg c cc0_stg5_0 ((dats m ρ 0 c).before (5 : Fin 8) t₀ d))
    ∗ (∃ d, stg c cc0_stg6_0 ((dats m ρ 0 c).before (6 : Fin 8) t₀ d))) ⊢ inp (inpOf m) c := by
  have e0 (d) : (dats m ρ 0 c).before (0 : Fin 8) t₀ d = (inpOf m).x c := by
    unfold Dat.before; rw [if_pos (show (cfg0.win (0 : Fin 8)).fetch t₀ = true from rfl)]; rfl
  have e1 (d) : (dats m ρ 0 c).before (1 : Fin 8) t₀ d = (inpOf m).win 0 c := by
    unfold Dat.before; rw [if_pos (show (cfg0.win (1 : Fin 8)).fetch t₀ = true from rfl)]; rfl
  have e2 (d) : (dats m ρ 0 c).before (2 : Fin 8) t₀ d = (inpOf m).wout 0 c := by
    unfold Dat.before; rw [if_pos (show (cfg0.win (2 : Fin 8)).fetch t₀ = true from rfl)]; rfl
  have e3 (d) : (dats m ρ 0 c).before (3 : Fin 8) t₀ d = (inpOf m).win 1 c := by
    unfold Dat.before; rw [if_pos (show (cfg0.win (3 : Fin 8)).fetch t₀ = true from rfl)]; rfl
  have e4 (d) : (dats m ρ 0 c).before (4 : Fin 8) t₀ d = (inpOf m).wout 1 c := by
    unfold Dat.before; rw [if_pos (show (cfg0.win (4 : Fin 8)).fetch t₀ = true from rfl)]; rfl
  have e5 (d) : (dats m ρ 0 c).before (5 : Fin 8) t₀ d = (inpOf m).win 2 c := by
    unfold Dat.before; rw [if_pos (show (cfg0.win (5 : Fin 8)).fetch t₀ = true from rfl)]; rfl
  have e6 (d) : (dats m ρ 0 c).before (6 : Fin 8) t₀ d = (inpOf m).wout 2 c := by
    unfold Dat.before; rw [if_pos (show (cfg0.win (6 : Fin 8)).fetch t₀ = true from rfl)]; rfl
  simp only [e0, e1, e2, e3, e4, e5, e6]
  unfold inp
  iintro ⟨⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, %d6, %f6, %h6, H6⟩
  subst h0 h1 h2 h3 h4 h5 h6
  isplitl [H0]; · iexact H0
  isplitl [H1]; · iexact H1
  isplitl [H2]; · iexact H2
  isplitl [H3]; · iexact H3
  isplitl [H4]; · iexact H4
  isplitl [H5]; · iexact H5
  iexact H6

/-- And as they are left. -/
theorem outputs (c : Dev nD) : iprop(inp (inpOf m) c ∗ ow c [] ∗ oPts c (outV (inpOf m) c) ∗ Φ₁ c) ⊢ bodyPost m ρ c := by
  unfold bodyPost inp ow Dat.owesAt Pipeline.owesWithin
  rw [show (dats m ρ 0 c).owed t₀.succ = 0 from rfl]
  iintro ⟨⟨H0, H1, H2, H3, H4, H5, H6⟩, ⟨%W, Ho⟩, HO, HΦ⟩
  isplitl [HΦ]; · iexact HΦ
  isplitl [Ho]
  · iexists W
    isplitr; · ipureintro; exact fun _ _ => Or.inl trivial
    iexact Ho
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  isplitl [H5]; · iexists _; isplitr; · (ipureintro; rfl)
                  iexact H5
  isplitl [H6]; · iexists _; isplitr; · (ipureintro; rfl)
                  iexact H6
  iexists _; isplitr; · (ipureintro; rfl)
  iexact HO

/-- The body at the launch's buffers. -/
theorem body_eq : defs₀ (F := F) Proc.tc 0 (t₀, cfg0.slots t₀) = cc0_body xM (Memref.isWhole_whole _) wiM (Memref.isWhole_whole _) woM (Memref.isWhole_whole _)
        (Memref.whole cc0_stg3_0) (Memref.isWhole_whole _) (Memref.whole cc0_stg4_0) (Memref.isWhole_whole _) (Memref.whole cc0_stg5_0) (Memref.isWhole_whole _)
        (Memref.whole cc0_stg6_0) (Memref.isWhole_whole _) oM (Memref.isWhole_whole _) hM (Memref.isWhole_whole _) rM (Memref.isWhole_whole _) gM (Memref.isWhole_whole _)
        cc0_scratch3 cc0_scratch4 cc0_scratch5 cc0_scratch6 := by
  unfold defs₀ Defs.onTc
  rfl

/-- The body from the state the launch hands it to the one it must leave. -/
theorem body_all (K : Dev nD × Fin 193 → ℕ) (c : Dev nD) {B} (hB : B = cc0_body (F := F) xM (Memref.isWhole_whole _) wiM (Memref.isWhole_whole _) woM (Memref.isWhole_whole _)
        (Memref.whole cc0_stg3_0) (Memref.isWhole_whole _) (Memref.whole cc0_stg4_0) (Memref.isWhole_whole _) (Memref.whole cc0_stg5_0) (Memref.isWhole_whole _)
        (Memref.whole cc0_stg6_0) (Memref.isWhole_whole _) oM (Memref.isWhole_whole _) hM (Memref.isWhole_whole _) rM (Memref.isWhole_whole _) gM (Memref.isWhole_whole _)
        cc0_scratch3 cc0_scratch4 cc0_scratch5 cc0_scratch6) :
    iprop(recs (inpOf m) K ∗ inp (inpOf m) c ∗ ow c duesB ∗ barTodo c ∗ tokB c ∗ bigSep Finset.univ (selfZ c) ∗ bigSep Finset.univ (U c) ∗ scr c ∗ (∃ f, oPts (F := F) c f))
      ⊢ WP c B (fun _ => bodyPost m ρ c) := by
  subst hB
  exact (enter (inpOf m) K c).trans (body_run (inpOf m) K (Q := fun _ => bodyPost m ρ c) ((leave (inpOf m) K c).trans (outputs m ρ c)))

set_option maxRecDepth 4000 in
/-- The body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have hb := fun K => body_all m ρ K c body_eq
  generalize defs₀ (F := F) Proc.tc 0 (t₀, cfg0.slots t₀) = B at hb ⊢
  show bodyPre m ρ c ⊢ WP c B (fun _ => bodyPost m ρ c)
  unfold bodyPre Φ₀ start
  iintro ⟨⟨⟨%K, #HK, Hb, Ht, Ha, HU⟩, Hs⟩, Ho, H0, H1, H2, H3, H4, H5, H6, %d7, %f7, -, H7⟩
  imod (close_self (inpOf m) K c) $$ [Ha] with Hz
  · isplitr; · iexact HK
    iexact Ha
  iapply (hb K)
  isplitr; · iexact HK
  isplitl [H0 H1 H2 H3 H4 H5 H6]
  · iapply (inputs m ρ c)
    iframe H0 H1 H2 H3 H4 H5 H6
  isplitl [Ho]
  · unfold Dat.owesAt Pipeline.owesWithin ow
    icases Ho with ⟨%W, -, Ho⟩
    iexists W
    iexact Ho
  isplitl [Hb]; · iexact Hb
  isplitl [Ht]; · iexact Ht
  isplitl [Hz]; · iexact Hz
  isplitl [HU]; · iexact HU
  isplitl [Hs]; · iexact Hs
  iexists f7
  iexact H7

/-! ## The launch -/

theorem dma_scoped : ∀ q : Fin 200, SemLoc.isScoped .tc (.dma q : SemLoc sig) = true := by decide +kernel
theorem stage_low : ∀ (w : Fin cfg0.W) (s : Fin (cfg0.spec w).nbuf), ((cfg0.spec w).sem s).val < 8 := by decide

theorem ownSemFacts : Pipeline.OwnSemFacts cfg0.spec osem where
  isScoped := fun x => dma_scoped _
  inj := by
    rintro ⟨k, lh, j⟩ ⟨k', lh', j'⟩ h
    have h2 : dsem k lh j = dsem k' lh' j' := SemLoc.dma.inj h
    have a := congrArg dk h2
    have b := congrArg dlh h2
    have d := congrArg dj h2
    rw [dk_dsem, dk_dsem] at a
    rw [dlh_dsem, dlh_dsem] at b
    rw [dj_dsem, dj_dsem] at d
    exact Prod.ext (Fin.ext a) (Prod.ext b d)
  disj := by
    rintro ⟨k, lh, j⟩ w s h
    have h2 : (dsem k lh j).val = ((cfg0.spec w).sem s).val := congrArg Fin.val (SemLoc.dma.inj h)
    have h3 : ((cfg0.spec w).sem s).val < 8 := stage_low w s
    have h4 : 8 ≤ (dsem k lh j).val := by unfold dsem; simp only; omega
    omega

theorem share_eq (c : Dev nD) (w : Fin cfg0.W) : (dats m ρ 0 c).share w = fullShare := by unfold Dat.share; split <;> rfl

theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred (fun d => owed d duesB) c ∗ prngReg c (ρ c) ∗ G' (inpOf m) c)
      ⊢ |={Set.univ}=> iprop(start (inpOf m) c ∗ emp) := by
  iintro ⟨-, Hlev, Hcr, -, HG⟩
  imodintro
  isplitl
  · iapply (start_of (inpOf m) c)
    iframe Hlev Hcr HG
  · iempintro

theorem phi0_intro (c : Dev nD) :
    iprop(start (inpOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hh, Hr, Hg⟩
  isplitl [Hs]; · iexact Hs
  isplitl [Hh]; · iexact Hh
  isplitl [Hr]; · iexact Hr
  iexact Hg

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scr
  iintro ⟨⟨Hh, Hr, Hg⟩, Hz, Hb⟩
  isplitl [Hb]; · iexact Hb
  isplitl [Hz]; · iexact Hz
  isplitl [Hh]; · iexact Hh
  isplitl [Hr]; · iexact Hr
  iexact Hg

theorem mayWait_stage (c : Dev nD) (q : DmaSem sig) (hq : q.val < 8) (O : CellTallies nD τ sig Unit) (hO : O = owed c duesB ∨ O = 0) :
    (levAts L lv : sProp 𝕄) ⊢ MayWait (c : Thread nD τ) (.dma q) () O := by
  rcases hO with rfl | rfl
  · refine mayWait c (.dma q) duesB ?_
    have e : lv ((c : Thread nD τ), .dma q) () = 0 := by dsimp only [lv]; exact if_pos hq
    rw [e]
    decide
  · exact mayWait c (.dma q) [] fun x hx => absurd hx List.not_mem_nil

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_low w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every fair run of the eight devices ends, each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => block_pos0 w) (harr := arr_whole0) (hstage := stage_whole0) (hshare := share_eq m ρ)
    (hdistinct := winFacts0.arr_inj)
    (O₀ := fun d => owed d duesB) (howed₀ := fun _ => rfl) (howedN := fun _ => rfl)
    (L := L) (lv := lv) (hL := L_of_ne) (hwaits := waits m ρ)
    (G := G (inpOf m)) (G' := G' (inpOf m)) (u₀ := u₀)
    (hu₀ := by
      unfold u₀
      iintro Hu
      ihave H := (ownU_pair _ _) $$ Hu
      icases H with ⟨HP, HX⟩
      imod (fund_all (inpOf m)) $$ HX with HG
      imodintro
      isplitl [HP] <;> iassumption)
    (hglob := glob (inpOf m))
    (hA := fun _ _ => rfl) (hpf := fun _ k => k.elim0)
    (X := start (inpOf m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof
-- ==== Proof.Final.lean ====
/-
  What the run leaves: each device's arguments as launched, its result the run's value; for any float values.
-/
module

public import proofs.«01_k».proof.Proof.Launch
public import proofs.«01_k».proof.Proof.Gen.KernelIdeal.Points

@[expose] public section

noncomputable section

namespace Cert.KProof

open Cert.KernelIdeal Cert.KernelIdeal.Gen
open Idealize.ShloMosaic
open Idealize.ShloMosaic.TcCoe
open Idealize.SL.Sem
open Idealize.ShloMosaic.Pipeline

variable {F : FTy → Type} [FloatOps F]

variable (m : (ℓ : Loc nD τ sig) → Buf (Elt F) ℓ) (ρ : Dev nD → PrngReg)

/-- A device's argument arrays end as they were launched. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept {r : PUnit × MemSt nD τ sig (Elt F)} (h : QC m ρ r) (c : Dev nD) : Kept m r c :=
  have k (w : Fin cfg0.W) (hw : (cfg0.win w).isOut = false) := (h c w).trans ((dats m ρ 0 c).arrAt_in w hw _)
  ⟨k 0 rfl, k 1 rfl, k 3 rfl, k 5 rfl, k 2 rfl, k 4 rfl, k 6 rfl⟩

/-- The whole run: every device's arguments kept, every counter back at zero. -/
theorem run_kept : θ_run defs (onTc (τ := τ) (main (F := F))) ⟨m, fun _ => 0, ρ⟩ (fun r => (∀ c : Dev nD, Kept m r c) ∧ r.2.sem = fun _ => 0) :=
  (θ_run defs _ _).mono (fun _ h => ⟨kept m ρ h.1, h.2⟩) (run_main m ρ)

/-- The block at index nought of an array taken whole is the array. -/
theorem read_whole (b : Ref sig .tc) (inb) (f : b.ty.Contents (Elt F)) :
    ((Memref.whole b).access (Rect.unit (fun a => 0 * b.ty.shape.size a) b.ty.shape.size inb) : View sig .tc _ _ _).read (Elt F) f = f :=
  Memref.read_access_unit_zero _ b (funext fun a => Nat.zero_mul _) inb f

/-- The result array's one block is the whole of it. -/
theorem read_out (c : Dev nD) (f : Buf (Elt F) ((cfg0.win 7).arr.view.loc (c : Thread nD τ))) :
    ((cfg0.win 7).blk t₀).view.read (Elt F) f = f :=
  read_whole main_v1 _ f

/-- The result array ends at the run's value. -/
theorem final_out (c : Dev nD) : finalA m ρ c 7 = outV (inpOf m) c := by
  have hw : ((cfg0.win 7).blk t₀).view.read (Elt F) ((dats m ρ 0 c).arrAt 7 cfg0.N) = (dats m ρ 0 c).flushed 7 t₀ := by
    rw [show cfg0.N = t₀.val + 1 from rfl, (dats m ρ 0 c).arrAt_succ (7 : Fin 8) t₀, flush0_7, if_pos rfl]
    exact View.read_write_univ _ _
  exact (read_out c _).symm.trans hw

theorem result {r : PUnit × MemSt nD τ sig (Elt F)} (h : QC m ρ r) (c : Dev nD) :
    r.2.mem ((c.tc : Thread nD τ).loc main_v1) = outV (inpOf m) c := (h c 7).trans (final_out m ρ c)

/-- The inputs are the argument arrays themselves. -/
theorem inpOf_eq : inpOf m = ({ x := fun c => m ((c : Thread nD τ).loc main_arg0), win := fun l c => match l with
      | 0 => m ((c : Thread nD τ).loc main_arg1)
      | 1 => m ((c : Thread nD τ).loc main_arg2)
      | _ + 2 => m ((c : Thread nD τ).loc main_arg3), wout := fun l c => match l with
      | 0 => m ((c : Thread nD τ).loc main_arg4)
      | 1 => m ((c : Thread nD τ).loc main_arg5)
      | _ + 2 => m ((c : Thread nD τ).loc main_arg6) } : Inp F) := by
  unfold inpOf
  congr 1
  · funext c; exact read_whole main_arg0 _ _
  · funext l c
    match l with
    | 0 => exact read_whole main_arg1 _ _
    | 1 => exact read_whole main_arg2 _ _
    | _ + 2 => exact read_whole main_arg3 _ _
  · funext l c
    match l with
    | 0 => exact read_whole main_arg4 _ _
    | 1 => exact read_whole main_arg5 _ _
    | _ + 2 => exact read_whole main_arg6 _ _

end Cert.KProof
-- ==== Proof.Value.lean ====
/-
  What the payloads compute, element by element, and a layer of the whole network.
-/
module

public import proofs.«01_k».proof.Proof.Final
public import proofs.«01_k».proof.Proof.Gen.ReferenceIdeal.Run
public import Idealize.ShloMosaic.Lib.Pointwise
public import Idealize.ShloMosaic.Lib.Layout

set_option maxRecDepth 16384

@[expose] public section

namespace Cert.KProof

open Idealize Idealize.ShloMosaic Cert.KernelIdeal Cert.KernelIdeal.Gen
open Cert.ReferenceIdeal (S2048x512 S512x2048 S512x512)

/-- Column `k` of half `h`. -/
abbrev col (h : Fin 2) (k : Fin 256) : Fin 512 := ⟨256 * h.val + k.val, by have := h.isLt; have := k.isLt; omega⟩
/-- Row `i` of chunk `p`. -/
abbrev row (p : Fin 8) (i : Fin 64) : Fin 512 := ⟨64 * p.val + i.val, by have := p.isLt; have := i.isLt; omega⟩
/-- Element `j` of device `c`'s share. -/
abbrev ent (c : Fin 8) (j : Fin 256) : Fin 2048 := ⟨c.val * 256 + j.val, by have := c.isLt; have := j.isLt; omega⟩

/-! ## What the loads read -/

theorem xAt_at (X : S512x256.Idx → Elt Ideal .bf16) (i : Fin 512) (j : Fin 256) : xAt X (ix2 i j) = X (ix2 i j) := by
  unfold xAt
  refine congrArg X (funext fun a => ?_)
  fin_cases a
  · exact Fin.ext (show 0 + 1 * i.val = i.val by omega)
  · exact Fin.ext (show 0 + 1 * j.val = j.val by omega)

theorem wiAt_at (h : Fin 2) (W : S256x512.Idx → Elt Ideal .bf16) (i j : Fin 256) :
    wiAt h.val W (ix2 i j) = W (ix2 i (col h j)) := by
  fin_cases h <;> refine congrArg W (funext fun a => ?_) <;> fin_cases a
  · exact Fin.ext (show 0 + 1 * i.val = i.val by omega)
  · exact Fin.ext (show 0 + 1 * j.val = 256 * 0 + j.val by omega)
  · exact Fin.ext (show 0 + 1 * i.val = i.val by omega)
  · exact Fin.ext (show 256 + 1 * j.val = 256 * 1 + j.val by omega)

theorem woAt_at (h : Fin 2) (W : S512x256.Idx → Elt Ideal .bf16) (i j : Fin 256) :
    woAt h.val W (ix2 i j) = W (ix2 (col h i) j) := by
  fin_cases h <;> refine congrArg W (funext fun a => ?_) <;> fin_cases a
  · exact Fin.ext (show 0 + 1 * i.val = 256 * 0 + i.val by omega)
  · exact Fin.ext (show 0 + 1 * j.val = j.val by omega)
  · exact Fin.ext (show 256 + 1 * i.val = 256 * 1 + i.val by omega)
  · exact Fin.ext (show 0 + 1 * j.val = j.val by omega)

theorem halfAt_at (h : Fin 2) (G : S2x512x256.Idx → Elt Ideal .bf16) (i : Fin 512) (k : Fin 256) :
    halfAt h.val G (ix3 0 i k) = G (ix3 h i k) := by
  fin_cases h <;> refine congrArg G (funext fun a => ?_) <;> fin_cases a
  · rfl
  · exact Fin.ext (show 0 + 1 * i.val = i.val by omega)
  · exact Fin.ext (show 0 + 1 * k.val = k.val by omega)
  · rfl
  · exact Fin.ext (show 0 + 1 * i.val = i.val by omega)
  · exact Fin.ext (show 0 + 1 * k.val = k.val by omega)

theorem ownAt_at (h : Fin 2) (c : Dev nD) (f : S2x512x256.Idx → Elt Ideal .bf16) (i : Fin 64) (k : Fin 256) :
    ownAt h.val c f (ix3 0 i k) = f (ix3 h (row (pos c) i) k) := by
  fin_cases h <;> refine congrArg f (funext fun a => ?_) <;> fin_cases a
  · exact Fin.ext (show k0_off7 c 0 + 1 * 0 = 0 by rw [off7_eq]; rfl)
  · exact Fin.ext (show k0_off7 c 1 + 1 * i.val = 64 * (pos c).val + i.val by rw [off7_eq, Nat.one_mul]; rfl)
  · exact Fin.ext (show k0_off7 c 2 + 1 * k.val = k.val by rw [off7_eq, Nat.one_mul]; exact Nat.zero_add _)
  · exact Fin.ext (show k0_off11 c 0 + 1 * 0 = 1 by rw [off11_eq]; rfl)
  · exact Fin.ext (show k0_off11 c 1 + 1 * i.val = 64 * (pos c).val + i.val by rw [off11_eq, Nat.one_mul]; rfl)
  · exact Fin.ext (show k0_off11 c 2 + 1 * k.val = k.val by rw [off11_eq, Nat.one_mul]; exact Nat.zero_add _)

theorem slotAt_at (h : Fin 2) (c : Dev nD) (r : Fin 7) (H : Dev nD → S2x512x256.Idx → Elt Ideal .bf16) (i : Fin 64) (k : Fin 256) :
    slotAt h.val c r (RB H c) (ix4 0 0 i k) = H (px c r.succ) (ix3 h (row (pos c) i) k) := by
  have hr : BitVec.ofNat 32 (1 + r.val) = mw r.succ := by revert r; decide
  have e : slotAt h.val c r (RB H c) (ix4 0 0 i k) = RB H c (ix4 h (px c r.succ) i k) := by
    fin_cases h <;> refine congrArg (RB H c) (funext fun a => ?_) <;> fin_cases a
    · exact Fin.ext (show k0_off9 c (BitVec.ofNat 32 (1 + r.val)) 0 + 1 * 0 = 0 by rw [hr, off9_eq]; rfl)
    · exact Fin.ext (show k0_off9 c (BitVec.ofNat 32 (1 + r.val)) 1 + 1 * 0 = (px c r.succ).val by rw [hr, off9_eq]; rfl)
    · exact Fin.ext (show k0_off9 c (BitVec.ofNat 32 (1 + r.val)) 2 + 1 * i.val = i.val by rw [hr, off9_eq, Nat.one_mul]; exact Nat.zero_add _)
    · exact Fin.ext (show k0_off9 c (BitVec.ofNat 32 (1 + r.val)) 3 + 1 * k.val = k.val by rw [hr, off9_eq, Nat.one_mul]; exact Nat.zero_add _)
    · exact Fin.ext (show k0_off13 c (BitVec.ofNat 32 (1 + r.val)) 0 + 1 * 0 = 1 by rw [hr, off13_eq]; rfl)
    · exact Fin.ext (show k0_off13 c (BitVec.ofNat 32 (1 + r.val)) 1 + 1 * 0 = (px c r.succ).val by rw [hr, off13_eq]; rfl)
    · exact Fin.ext (show k0_off13 c (BitVec.ofNat 32 (1 + r.val)) 2 + 1 * i.val = i.val by rw [hr, off13_eq, Nat.one_mul]; exact Nat.zero_add _)
    · exact Fin.ext (show k0_off13 c (BitVec.ofNat 32 (1 + r.val)) 3 + 1 * k.val = k.val by rw [hr, off13_eq, Nat.one_mul]; exact Nat.zero_add _)
  rw [e]
  unfold RB
  rw [ix3_eq_valueIdx]
  rfl

/-! ## What each stage computes -/

theorem hval_at (X : FVec Ideal S512x256 .bf16) (W : S256x512.Idx → Elt Ideal .bf16) (h : Fin 2) (i : Fin 512) (k : Fin 256) :
    hval X W h.val (ix3 0 i k) = ∑ j : Fin 256, X (ix2 i j) * W (ix2 j (col h k)) := by
  unfold hval
  pointwise [k0_pay16]
  refine Finset.sum_congr rfl fun j _ => ?_
  rw [wiAt_at]

theorem HB_at (X : FVec Ideal S512x256 .bf16) (W : S256x512.Idx → Elt Ideal .bf16) (h : Fin 2) (i : Fin 512) (k : Fin 256) :
    HB X W (ix3 h i k) = ∑ j : Fin 256, X (ix2 i j) * W (ix2 j (col h k)) := by
  rw [← hval_at]
  unfold HB
  rw [ix3_eq_valueIdx 0 i k]
  rfl

theorem myh_at (H : Dev nD → S2x512x256.Idx → Elt Ideal .bf16) (h : Fin 2) (c : Dev nD) (i : Fin 64) (k : Fin 256) :
    myh H h.val c (ix3 0 i k) = max (∑ d : Dev nD, H d (ix3 h (row (pos c) i) k)) 0 := by
  unfold myh
  pointwise [k0_pay8, k0_pay7, k0_pay6, k0_pay5, k0_pay4]
  simp only [slotAt_at, ownAt_at]
  rw [← (pxE c).sum_comp, Fin.sum_univ_eight]
  show _ = max (H (px c 0) _ + H (px c 1) _ + H (px c 2) _ + H (px c 3) _ + H (px c 4) _ + H (px c 5) _ + H (px c 6) _ + H (px c 7) _) 0
  rw [px_zero]
  congr 1
  ac_rfl

theorem HG_at (H : Dev nD → S2x512x256.Idx → Elt Ideal .bf16) (h : Fin 2) (i : Fin 512) (k : Fin 256) :
    HG H (ix3 h i k) = max (∑ d : Dev nD, H d (ix3 h i k)) 0 := by
  have hi := i.isLt
  have e : HG H (ix3 h i k) = myh H h.val (pos ⟨i.val / 64, by omega⟩) (ix3 0 ⟨i.val % 64, Nat.mod_lt _ (by decide)⟩ k) := by
    unfold HG
    rw [ix3_eq_valueIdx (0 : Fin 1)]
    rfl
  rw [e, myh_at, pos_pos]
  have : row ⟨i.val / 64, by omega⟩ ⟨i.val % 64, Nat.mod_lt _ (by decide)⟩ = i := Fin.ext (Nat.div_add_mod _ _)
  rw [this]

theorem nextX_at (G : S2x512x256.Idx → Elt Ideal .bf16) (W : S512x256.Idx → Elt Ideal .bf16) (i : Fin 512) (j : Fin 256) :
    nextX G W (ix2 i j) = ∑ k : Fin 256, G (ix3 0 i k) * W (ix2 (col 0 k) j) + ∑ k : Fin 256, G (ix3 1 i k) * W (ix2 (col 1 k) j) := by
  unfold nextX
  pointwise [k0_pay14, k0_pay13]
  congr 1 <;> refine Finset.sum_congr rfl fun k _ => ?_
  · exact congrArg₂ _ (halfAt_at 0 G i k) (woAt_at 0 W k j)
  · exact congrArg₂ _ (halfAt_at 1 G i k) (woAt_at 1 W k j)

theorem lastX_at (G : S2x512x256.Idx → Elt Ideal .bf16) (W : S512x256.Idx → Elt Ideal .bf16) (i : Fin 512) (j : Fin 256) :
    lastX G W (ix2 i j) = ∑ k : Fin 256, G (ix3 0 i k) * W (ix2 (col 0 k) j) + ∑ k : Fin 256, G (ix3 1 i k) * W (ix2 (col 1 k) j) := by
  unfold lastX
  pointwise [k0_pay42, k0_pay41]
  congr 1 <;> refine Finset.sum_congr rfl fun k _ => ?_
  · exact congrArg₂ _ (halfAt_at 0 G i k) (woAt_at 0 W k j)
  · exact congrArg₂ _ (halfAt_at 1 G i k) (woAt_at 1 W k j)

/-! ## A layer of the whole network -/

/-- An element of a layer's output: over the hidden units, the positive part of the first product times the second weight. -/
noncomputable def layer (X : Fin 512 → Fin 2048 → EReal) (Wi : S2048x512.Idx → EReal) (Wo : S512x2048.Idx → EReal) (i : Fin 512) (j : Fin 2048) : EReal :=
  ∑ k : Fin 512, max (∑ e : Fin 2048, X i e * Wi (ix2 e k)) 0 * Wo (ix2 k j)

/-- The devices' shares, all together, are the entries. -/
theorem sum_shares (f : Fin 2048 → EReal) : ∑ d : Dev nD, ∑ j : Fin 256, f (ent d j) = ∑ e : Fin 2048, f e := by
  rw [Fin.sum_univ_tiles 8 256 rfl f]

section
variable {X : Fin 512 → Fin 2048 → EReal} {Wi : S2048x512.Idx → EReal} {Wo : S512x2048.Idx → EReal}
  {x : Dev nD → FVec Ideal S512x256 .bf16} {wi : Dev nD → S256x512.Idx → Elt Ideal .bf16} {wo : Dev nD → S512x256.Idx → Elt Ideal .bf16}
  (hx : ∀ c i j, x c (ix2 i j) = X i (ent c j)) (hwi : ∀ c j k, wi c (ix2 j k) = Wi (ix2 (ent c j) k))
  (hwo : ∀ c k j, wo c (ix2 k j) = Wo (ix2 k (ent c j)))
include hx hwi

theorem gathered (h : Fin 2) (i : Fin 512) (k : Fin 256) :
    HG (fun d => HB (x d) (wi d)) (ix3 h i k) = max (∑ e : Fin 2048, X i e * Wi (ix2 e (col h k))) 0 := by
  rw [HG_at, ← sum_shares]
  refine congrArg (max · 0) (Finset.sum_congr rfl fun d _ => ?_)
  rw [HB_at]
  exact Finset.sum_congr rfl fun j _ => by rw [hx, hwi]

include hwo

theorem layer_halves (c : Dev nD) (i : Fin 512) (j : Fin 256) :
    ∑ k : Fin 256, HG (fun d => HB (x d) (wi d)) (ix3 0 i k) * wo c (ix2 (col 0 k) j)
      + ∑ k : Fin 256, HG (fun d => HB (x d) (wi d)) (ix3 1 i k) * wo c (ix2 (col 1 k) j) = layer X Wi Wo i (ent c j) := by
  unfold layer
  rw [Fin.sum_univ_two_halves 256 256 rfl]
  congr 1 <;> refine Finset.sum_congr rfl fun k _ => ?_
  · rw [gathered hx hwi, hwo]
    have : (⟨k.val, by have := k.isLt; omega⟩ : Fin 512) = col 0 k := Fin.ext (Nat.zero_add _).symm
    rw [this]
  · rw [gathered hx hwi, hwo]
    rfl

theorem next_layer (c : Dev nD) (i : Fin 512) (j : Fin 256) :
    nextX (HG fun d => HB (x d) (wi d)) (wo c) (ix2 i j) = layer X Wi Wo i (ent c j) := by
  rw [nextX_at]; exact layer_halves hx hwi hwo c i j
theorem last_layer (c : Dev nD) (i : Fin 512) (j : Fin 256) :
    lastX (HG fun d => HB (x d) (wi d)) (wo c) (ix2 i j) = layer X Wi Wo i (ent c j) := by
  rw [lastX_at]; exact layer_halves hx hwi hwo c i j

end

/-- The three layers. -/
noncomputable def net (x : S512x2048.Idx → EReal) (wi : ℕ → S2048x512.Idx → EReal) (wo : ℕ → S512x2048.Idx → EReal) : ℕ → Fin 512 → Fin 2048 → EReal
  | 0 => fun i j => x (ix2 i j)
  | l + 1 => layer (net x wi wo l) (wi l) (wo l)

section
variable (I : Inp Ideal) (x : S512x2048.Idx → EReal) (wi : ℕ → S2048x512.Idx → EReal) (wo : ℕ → S512x2048.Idx → EReal)
  (hx : ∀ c i j, I.x c (ix2 i j) = x (ix2 i (ent c j))) (hwi : ∀ l c j k, I.win l c (ix2 j k) = wi l (ix2 (ent c j) k))
  (hwo : ∀ l c k j, I.wout l c (ix2 k j) = wo l (ix2 k (ent c j)))
include hx hwi hwo

theorem XV_at (l : ℕ) : ∀ c i j, XV I l c (ix2 i j) = net x wi wo l i (ent c j) := by
  induction l with
  | zero =>
    intro c i j
    show k0_pay1 (xAt (I.x c)) (ix2 i j) = x (ix2 i (ent c j))
    rw [← hx, ← xAt_at (I.x c)]
    pointwise [k0_pay1]
  | succ l ih => exact next_layer ih (hwi l) (hwo l)

/-- The result on a device is its share of the three layers. -/
theorem outV_at (c : Dev nD) (i : Fin 512) (j : Fin 256) : outV I c (ix2 i j) = net x wi wo 3 i (ent c j) :=
  last_layer (XV_at I x wi wo hx hwi hwo 2) (hwi 2) (hwo 2) c i j

end

end Cert.KProof
-- ==== Proof.Shares.lean ====
/-
  The reference at an element, and each device's result as its share of it.
-/
module

public import proofs.«01_k».proof.Proof.Value

@[expose] public section

namespace Cert.KProof

open Idealize Idealize.ShloMosaic Cert.KernelIdeal Cert.KernelIdeal.Gen
open Cert.ReferenceIdeal (S2048x512 S512x2048 S512x512)

/-! ## The reference's term -/

noncomputable section

/-- A layer as the reference computes it. -/
def refLayer (X : FVec Ideal S512x2048 .bf16) (Wi : FVec Ideal S2048x512 .bf16) (Wo : FVec Ideal S512x2048 .bf16) : FVec Ideal S512x2048 .f32 :=
  Host.dotGeneral Cert.ReferenceIdeal.dot_S512x512_S512x2048_S512x2048_1_0_0_1_n_n none
    (maximumf (truncf .bf16 (Host.dotGeneral Cert.ReferenceIdeal.dot_S512x2048_S2048x512_S512x512_1_0_0_1_n_n none X Wi) Cert.ReferenceIdeal.Gen.bitsLt_bf16_f32)
      (broadcastInDim S512x512 ![] Cert.ReferenceIdeal.Gen.bcast_S_S512x512 (constant Cert.ReferenceIdeal.S_ .bf16 0x0000#16))) Wo

theorem refLayer_at (X : FVec Ideal S512x2048 .bf16) (Wi : FVec Ideal S2048x512 .bf16) (Wo : FVec Ideal S512x2048 .bf16) (i : Fin 512) (j : Fin 2048) :
    refLayer X Wi Wo (ix2 i j) = layer (fun i j => X (ix2 i j)) Wi Wo i j := by
  unfold layer refLayer
  pointwise

def refNext (X : FVec Ideal S512x2048 .bf16) (Wi : FVec Ideal S2048x512 .bf16) (Wo : FVec Ideal S512x2048 .bf16) : FVec Ideal S512x2048 .bf16 :=
  truncf .bf16 (refLayer X Wi Wo) Cert.ReferenceIdeal.Gen.bitsLt_bf16_f32

theorem refNext_at (X : FVec Ideal S512x2048 .bf16) (Wi : FVec Ideal S2048x512 .bf16) (Wo : FVec Ideal S512x2048 .bf16) (i : Fin 512) (j : Fin 2048) :
    refNext X Wi Wo (ix2 i j) = layer (fun i j => X (ix2 i j)) Wi Wo i j := by
  rw [← refLayer_at]
  unfold refNext
  pointwise

def refOut (x : FVec Ideal S512x2048 .bf16) (wi : ℕ → FVec Ideal S2048x512 .bf16) (wo : ℕ → FVec Ideal S512x2048 .bf16) : FVec Ideal S512x2048 .f32 :=
  refLayer (refNext (refNext x (wi 0) (wo 0)) (wi 1) (wo 1)) (wi 2) (wo 2)

theorem refOut_at (x : FVec Ideal S512x2048 .bf16) (wi : ℕ → FVec Ideal S2048x512 .bf16) (wo : ℕ → FVec Ideal S512x2048 .bf16) (i : Fin 512) (j : Fin 2048) :
    refOut x wi wo (ix2 i j) = net x wi wo 3 i j := by
  unfold refOut
  rw [refLayer_at]
  show layer _ _ _ i j = layer (layer (layer (fun i j => x (ix2 i j)) _ _) _ _) _ _ i j
  congr 1
  funext i j
  rw [refNext_at]
  congr 1
  funext i j
  rw [refNext_at]

/-! ## The shares of the whole arrays -/

theorem cols_at {α : Type} (c : Fin 8) (v : S512x2048.Idx → α) (i : Fin 512) (j : Fin 256) :
    (Layout.block ⟨2, ![512, 256]⟩ ⟨2, ![512, 2048]⟩ 1 8 c v : S512x256.Idx → α) (ix2 i j) = v (ix2 i (ent c j)) := by
  rw [Layout.block_apply]
  exact congrArg v (funext fun a => by fin_cases a <;> exact Fin.ext rfl)
theorem rows_at {α : Type} (c : Fin 8) (v : S2048x512.Idx → α) (j : Fin 256) (k : Fin 512) :
    (Layout.block ⟨2, ![256, 512]⟩ ⟨2, ![2048, 512]⟩ 0 8 c v : S256x512.Idx → α) (ix2 j k) = v (ix2 (ent c j) k) := by
  rw [Layout.block_apply]
  exact congrArg v (funext fun a => by fin_cases a <;> exact Fin.ext rfl)

/-- From shares of the whole arrays each device ends with its share of the reference's result. -/
theorem outV_share (I : Inp Ideal) (x : FVec Ideal S512x2048 .bf16) (wi : ℕ → FVec Ideal S2048x512 .bf16) (wo : ℕ → FVec Ideal S512x2048 .bf16)
    (hx : ∀ c, I.x c = Layout.block ⟨2, ![512, 256]⟩ ⟨2, ![512, 2048]⟩ 1 8 c x)
    (hwi : ∀ l c, I.win l c = Layout.block ⟨2, ![256, 512]⟩ ⟨2, ![2048, 512]⟩ 0 8 c (wi l))
    (hwo : ∀ l c, I.wout l c = Layout.block ⟨2, ![512, 256]⟩ ⟨2, ![512, 2048]⟩ 1 8 c (wo l)) (c : Dev nD) :
    outV I c = Layout.block ⟨2, ![512, 256]⟩ ⟨2, ![512, 2048]⟩ 1 8 c (refOut x wi wo) := by
  funext q
  idx_vars q
  rw [cols_at, refOut_at]
  exact outV_at I x wi wo (fun c i j => by rw [hx]; exact cols_at c x i j) (fun l c j k => by rw [hwi]; exact rows_at c (wi l) j k)
    (fun l c k j => by rw [hwo]; exact cols_at c (wo l) k j) c _ _

end

end Cert.KProof
-- ==== Proof.lean ====
/-
  The certificate: the kernel over eight devices, its reading at the extended reals, the reference, the claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Shares
public import Idealize.ShloMosaic.Adequacy
public import Idealize.ShloMosaic.Init

@[expose] public section

noncomputable section

namespace Cert.Proof

open Idealize.ShloMosaic Idealize.SL.Sem

/-- The idealized kernel runs to the end, its arguments kept, every counter at zero. -/
theorem frame_kernel_ideal : Cert.quiescent_KernelIdeal := fun m ρ _ => KProof.run_kept (F := Ideal) m ρ

/-- The two programs' bodies are one text, -/
theorem body_same : @Cert.Kernel.cc0_body Bits _ Cert.Kernel.Gen.facts = @Cert.KernelIdeal.cc0_body Bits _ Cert.KernelIdeal.Gen.facts := rfl

/-- so their tables of bodies are one, -/
theorem table_same : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l a
  match l, a with
  | 0, (t, s) => rfl

/-- and the launches over them. -/
theorem defs_same : @Cert.Kernel.defs Bits _ Cert.Kernel.Gen.facts = @Cert.KernelIdeal.defs Bits _ Cert.KernelIdeal.Gen.facts :=
  congrArg (Pipeline.defs (Cert.KernelIdeal.pcfgs (F := Bits))) table_same

/-- The kernel at floats as bit patterns: the run was written for any float values. -/
theorem frame_kernel : Cert.quiescent_Kernel := fun m ρ _ => by
  rw [defs_same]
  exact KProof.run_kept (F := Bits) m ρ

/-- The reference's run keeps its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results agree: each device's is its share of the reference's. -/
theorem algebraic : Cert.algebraic_KernelIdeal_ReferenceIdeal := fun m ρ m' ρ' _ hm => by
  let T : Thread Cert.ReferenceIdeal.nD Cert.ReferenceIdeal.τ := (0 : Dev Cert.ReferenceIdeal.nD).tc
  let wi : ℕ → FVec Ideal Cert.ReferenceIdeal.S2048x512 .bf16 := fun l => match l with
    | 0 => m' (T.loc Cert.ReferenceIdeal.main_arg1)
    | 1 => m' (T.loc Cert.ReferenceIdeal.main_arg2)
    | _ + 2 => m' (T.loc Cert.ReferenceIdeal.main_arg3)
  let wo : ℕ → FVec Ideal Cert.ReferenceIdeal.S512x2048 .bf16 := fun l => match l with
    | 0 => m' (T.loc Cert.ReferenceIdeal.main_arg4)
    | 1 => m' (T.loc Cert.ReferenceIdeal.main_arg5)
    | _ + 2 => m' (T.loc Cert.ReferenceIdeal.main_arg6)
  have out (c : Dev Cert.KernelIdeal.nD) : KProof.outV (KProof.inpOf m) c
      = Layout.block ⟨2, ![512, 256]⟩ ⟨2, ![512, 2048]⟩ 1 8 c (KProof.refOut (m' (T.loc Cert.ReferenceIdeal.main_arg0)) wi wo) := by
    rw [KProof.inpOf_eq]
    refine KProof.outV_share _ _ wi wo (fun c => (hm c).1) (fun l c => ?_) (fun l c => ?_) c
    · match l with
      | 0 => exact (hm c).2.1
      | 1 => exact (hm c).2.2.1
      | _ + 2 => exact (hm c).2.2.2.1
    · match l with
      | 0 => exact (hm c).2.2.2.2.1
      | 1 => exact (hm c).2.2.2.2.2.1
      | _ + 2 => exact (hm c).2.2.2.2.2.2
  exact ⟨KProof.refOut (m' (T.loc Cert.ReferenceIdeal.main_arg0)) wi wo,
    (θ_run Cert.KernelIdeal.defs _ _).mono (fun r h c => ⟨(KProof.result m ρ h.1 c).trans (out c), KProof.kept m ρ h.1 c⟩) (KProof.run_main (F := Ideal) m ρ),
    (θ_run Cert.ReferenceIdeal.defs _ _).mono (fun r h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernel_ideal, frame_reference, trivial, algebraic⟩

end Cert.Proof

end
